-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_vocab [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tokens_in_vocab [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tokens_in_vocab [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel)
    ∧ quiescent_KernelIdeal (hKernelIdeal := hKernelIdeal)
    ∧ quiescent_KernelIdeal_pre_tokens_in_vocab (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal_pre_tokens_in_vocab (hKernelIdeal := hKernelIdeal) (hReferenceIdeal := hReferenceIdeal) (hPre_tokens_in_vocab := hPre_tokens_in_vocab)
-- ==== Pre_tokens_in_vocab.lean ====
abbrev S8192x80 : Shape := ⟨2, ![8192, 80]⟩
abbrev S100x8 : Shape := ⟨2, ![100, 8]⟩
abbrev S400x8 : Shape := ⟨2, ![400, 8]⟩
abbrev S400x100 : Shape := ⟨2, ![400, 100]⟩
abbrev S400 : Shape := ⟨1, ![400]⟩
abbrev S100x100 : Shape := ⟨2, ![100, 100]⟩
abbrev S100 : Shape := ⟨1, ![100]⟩
abbrev S_ : Shape := ⟨0, ![]⟩

class Facts : Prop where
  bcast_S_S8192x80 : S_.BroadcastsInDim S8192x80 (![] : Fin 0 → Fin S8192x80.rank)
  reducesTo_S8192x80_S_d0_1 : S8192x80.ReducesTo [0, 1] S_
  h_S_ : 0 < S_.numel

variable [Facts]

def fn {F : FTy → Type} [FloatOps F] (main_arg0 : IVec S8192x80 32) (main_arg1 : FVec F S100x8 .f32) (main_arg2 : FVec F S400x8 .f32) (main_arg3 : FVec F S400x100 .f32) (main_arg4 : FVec F S400 .f32) (main_arg5 : FVec F S400 .f32) (main_arg6 : FVec F S400x100 .f32) (main_arg7 : FVec F S400x100 .f32) (main_arg8 : FVec F S400 .f32) (main_arg9 : FVec F S400 .f32) (main_arg10 : FVec F S100x100 .f32) (main_arg11 : FVec F S100 .f32) : IVec S_ 1 :=
  let main_c : IVec S_ 32 := constantI S_ 32 0#32
  let main_v0 : IVec S8192x80 32 := broadcastInDim S8192x80 ![] bcast_S_S8192x80 main_c
  let main_v1 : IVec S8192x80 1 := cmpi .sge main_arg0 main_v0
  let main_c_0 : IVec S_ 32 := constantI S_ 32 100#32
  let main_v2 : IVec S8192x80 32 := broadcastInDim S8192x80 ![] bcast_S_S8192x80 main_c_0
  let main_v3 : IVec S8192x80 1 := cmpi .slt main_arg0 main_v2
  let main_v4 : IVec S8192x80 1 := andi main_v1 main_v3
  let main_c_1 : IVec S_ 1 := constantI S_ 1 1#1
  let main_v5 : IVec S_ 1 := (fun x v => Host.reduce IntOp.andi x v reducesTo_S8192x80_S_d0_1 h_S_) main_v4 main_c_1
  main_v5
-- ==== Kernel.lean ====
abbrev S8192x80 : Shape := ⟨2, ![8192, 80]⟩
abbrev S100x8 : Shape := ⟨2, ![100, 8]⟩
abbrev S400x8 : Shape := ⟨2, ![400, 8]⟩
abbrev S400x100 : Shape := ⟨2, ![400, 100]⟩
abbrev S400 : Shape := ⟨1, ![400]⟩
abbrev S100x100 : Shape := ⟨2, ![100, 100]⟩
abbrev S100 : Shape := ⟨1, ![100]⟩
abbrev S4 : Shape := ⟨1, ![4]⟩
abbrev S80x8192 : Shape := ⟨2, ![80, 8192]⟩
abbrev S80x1x8192 : Shape := ⟨3, ![80, 1, 8192]⟩
abbrev S8x100 : Shape := ⟨2, ![8, 100]⟩
abbrev S_ : Shape := ⟨0, ![]⟩
abbrev S8x112 : Shape := ⟨2, ![8, 112]⟩
abbrev S4x100x8 : Shape := ⟨3, ![4, 100, 8]⟩
abbrev S4x1x1 : Shape := ⟨3, ![4, 1, 1]⟩
abbrev S4x104x8 : Shape := ⟨3, ![4, 104, 8]⟩
abbrev S4x13x8x8 : Shape := ⟨4, ![4, 13, 8, 8]⟩
abbrev S13x4x8x8 : Shape := ⟨4, ![13, 4, 8, 8]⟩
abbrev S416x8 : Shape := ⟨2, ![416, 8]⟩
abbrev S4x100 : Shape := ⟨2, ![4, 100]⟩
abbrev S4x1 : Shape := ⟨2, ![4, 1]⟩
abbrev S4x104 : Shape := ⟨2, ![4, 104]⟩
abbrev S4x13x8 : Shape := ⟨3, ![4, 13, 8]⟩
abbrev S13x4x8 : Shape := ⟨3, ![13, 4, 8]⟩
abbrev S416x1 : Shape := ⟨2, ![416, 1]⟩
abbrev S416x112 : Shape := ⟨2, ![416, 112]⟩
abbrev S4x100x100 : Shape := ⟨3, ![4, 100, 100]⟩
abbrev S4x104x100 : Shape := ⟨3, ![4, 104, 100]⟩
abbrev S4x13x8x100 : Shape := ⟨4, ![4, 13, 8, 100]⟩
abbrev S13x4x8x100 : Shape := ⟨4, ![13, 4, 8, 100]⟩
abbrev S416x100 : Shape := ⟨2, ![416, 100]⟩
abbrev S416x16 : Shape := ⟨2, ![416, 16]⟩
abbrev S416x240 : Shape := ⟨2, ![416, 240]⟩
abbrev S112x100 : Shape := ⟨2, ![112, 100]⟩
abbrev S1x100 : Shape := ⟨2, ![1, 100]⟩
abbrev S8192x100 : Shape := ⟨2, ![8192, 100]⟩
abbrev S80x1x1024 : Shape := ⟨3, ![80, 1, 1024]⟩
abbrev S1024x100 : Shape := ⟨2, ![1024, 100]⟩
abbrev S416x224 : Shape := ⟨2, ![416, 224]⟩
abbrev S112x512 : Shape := ⟨2, ![112, 512]⟩
abbrev S16x512 : Shape := ⟨2, ![16, 512]⟩
abbrev S8x512 : Shape := ⟨2, ![8, 512]⟩
abbrev S13x8x512 : Shape := ⟨3, ![13, 8, 512]⟩
abbrev S1x1x1024 : Shape := ⟨3, ![1, 1, 1024]⟩
abbrev S1x1024 : Shape := ⟨2, ![1, 1024]⟩
abbrev S1x512 : Shape := ⟨2, ![1, 512]⟩
abbrev S224x512 : Shape := ⟨2, ![224, 512]⟩
abbrev S416x512 : Shape := ⟨2, ![416, 512]⟩
abbrev S13x32x512 : Shape := ⟨3, ![13, 32, 512]⟩
abbrev S104x512 : Shape := ⟨2, ![104, 512]⟩
abbrev S240x512 : Shape := ⟨2, ![240, 512]⟩
abbrev S512x100 : Shape := ⟨2, ![512, 100]⟩

abbrev nBuf : Space → Nat
  | .hbm => 121
  | .vmem => 12
  | .smem => 0
  | _ => 0

abbrev bufTy : (tb : Table) → Fin (tcTables nBuf tb) → BufTy
  | .hbm, ⟨0, _⟩ => ⟨S8192x80, .i32⟩
  | .hbm, ⟨1, _⟩ => ⟨S100x8, .f32⟩
  | .hbm, ⟨2, _⟩ => ⟨S400x8, .f32⟩
  | .hbm, ⟨3, _⟩ => ⟨S400x100, .f32⟩
  | .hbm, ⟨4, _⟩ => ⟨S400, .f32⟩
  | .hbm, ⟨5, _⟩ => ⟨S400, .f32⟩
  | .hbm, ⟨6, _⟩ => ⟨S400x100, .f32⟩
  | .hbm, ⟨7, _⟩ => ⟨S400x100, .f32⟩
  | .hbm, ⟨8, _⟩ => ⟨S400, .f32⟩
  | .hbm, ⟨9, _⟩ => ⟨S400, .f32⟩
  | .hbm, ⟨10, _⟩ => ⟨S100x100, .f32⟩
  | .hbm, ⟨11, _⟩ => ⟨S100, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S80x8192, .i32⟩
  | .hbm, ⟨19, _⟩ => ⟨S80x1x8192, .i32⟩
  | .hbm, ⟨20, _⟩ => ⟨S8x100, .f32⟩
  | .hbm, ⟨21, _⟩ => ⟨S_, .i32⟩
  | .hbm, ⟨22, _⟩ => ⟨S_, .f32⟩
  | .hbm, ⟨23, _⟩ => ⟨S8x112, .f32⟩
  | .hbm, ⟨24, _⟩ => ⟨S4x100x8, .f32⟩
  | .hbm, ⟨25, _⟩ => ⟨S4x1x1, .f32⟩
  | .hbm, ⟨26, _⟩ => ⟨S4x100x8, .f32⟩
  | .hbm, ⟨27, _⟩ => ⟨S4x100x8, .f32⟩
  | .hbm, ⟨28, _⟩ => ⟨S_, .i32⟩
  | .hbm, ⟨29, _⟩ => ⟨S_, .f32⟩
  | .hbm, ⟨30, _⟩ => ⟨S4x104x8, .f32⟩
  | .hbm, ⟨31, _⟩ => ⟨S4x13x8x8, .f32⟩
  | .hbm, ⟨32, _⟩ => ⟨S13x4x8x8, .f32⟩
  | .hbm, ⟨33, _⟩ => ⟨S416x8, .f32⟩
  | .hbm, ⟨34, _⟩ => ⟨S400, .f32⟩
  | .hbm, ⟨35, _⟩ => ⟨S4x100, .f32⟩
  | .hbm, ⟨36, _⟩ => ⟨S4x1, .f32⟩
  | .hbm, ⟨37, _⟩ => ⟨S4x100, .f32⟩
  | .hbm, ⟨38, _⟩ => ⟨S4x100, .f32⟩
  | .hbm, ⟨39, _⟩ => ⟨S_, .i32⟩
  | .hbm, ⟨40, _⟩ => ⟨S_, .f32⟩
  | .hbm, ⟨41, _⟩ => ⟨S4x104, .f32⟩
  | .hbm, ⟨42, _⟩ => ⟨S4x13x8, .f32⟩
  | .hbm, ⟨43, _⟩ => ⟨S13x4x8, .f32⟩
  | .hbm, ⟨44, _⟩ => ⟨S416x1, .f32⟩
  | .hbm, ⟨45, _⟩ => ⟨S416x112, .f32⟩
  | .hbm, ⟨46, _⟩ => ⟨S4x100x100, .f32⟩
  | .hbm, ⟨47, _⟩ => ⟨S4x1x1, .f32⟩
  | .hbm, ⟨48, _⟩ => ⟨S4x100x100, .f32⟩
  | .hbm, ⟨49, _⟩ => ⟨S4x100x100, .f32⟩
  | .hbm, ⟨50, _⟩ => ⟨S_, .i32⟩
  | .hbm, ⟨51, _⟩ => ⟨S_, .f32⟩
  | .hbm, ⟨52, _⟩ => ⟨S4x104x100, .f32⟩
  | .hbm, ⟨53, _⟩ => ⟨S4x13x8x100, .f32⟩
  | .hbm, ⟨54, _⟩ => ⟨S13x4x8x100, .f32⟩
  | .hbm, ⟨55, _⟩ => ⟨S416x100, .f32⟩
  | .hbm, ⟨56, _⟩ => ⟨S_, .f32⟩
  | .hbm, ⟨57, _⟩ => ⟨S416x100, .f32⟩
  | .hbm, ⟨58, _⟩ => ⟨S416x100, .f32⟩
  | .hbm, ⟨59, _⟩ => ⟨S_, .i32⟩
  | .hbm, ⟨60, _⟩ => ⟨S_, .f32⟩
  | .hbm, ⟨61, _⟩ => ⟨S416x112, .f32⟩
  | .hbm, ⟨62, _⟩ => ⟨S416x112, .bf16⟩
  | .hbm, ⟨63, _⟩ => ⟨S400, .f32⟩
  | .hbm, ⟨64, _⟩ => ⟨S4x100, .f32⟩
  | .hbm, ⟨65, _⟩ => ⟨S4x1, .f32⟩
  | .hbm, ⟨66, _⟩ => ⟨S4x100, .f32⟩
  | .hbm, ⟨67, _⟩ => ⟨S4x100, .f32⟩
  | .hbm, ⟨68, _⟩ => ⟨S_, .i32⟩
  | .hbm, ⟨69, _⟩ => ⟨S_, .f32⟩
  | .hbm, ⟨70, _⟩ => ⟨S4x104, .f32⟩
  | .hbm, ⟨71, _⟩ => ⟨S4x13x8, .f32⟩
  | .hbm, ⟨72, _⟩ => ⟨S13x4x8, .f32⟩
  | .hbm, ⟨73, _⟩ => ⟨S416x1, .f32⟩
  | .hbm, ⟨74, _⟩ => ⟨S_, .i32⟩
  | .hbm, ⟨75, _⟩ => ⟨S_, .f32⟩
  | .hbm, ⟨76, _⟩ => ⟨S416x16, .f32⟩
  | .hbm, ⟨77, _⟩ => ⟨S4x100x100, .f32⟩
  | .hbm, ⟨78, _⟩ => ⟨S4x1x1, .f32⟩
  | .hbm, ⟨79, _⟩ => ⟨S4x100x100, .f32⟩
  | .hbm, ⟨80, _⟩ => ⟨S4x100x100, .f32⟩
  | .hbm, ⟨81, _⟩ => ⟨S_, .i32⟩
  | .hbm, ⟨82, _⟩ => ⟨S_, .f32⟩
  | .hbm, ⟨83, _⟩ => ⟨S4x104x100, .f32⟩
  | .hbm, ⟨84, _⟩ => ⟨S4x13x8x100, .f32⟩
  | .hbm, ⟨85, _⟩ => ⟨S13x4x8x100, .f32⟩
  | .hbm, ⟨86, _⟩ => ⟨S416x100, .f32⟩
  | .hbm, ⟨87, _⟩ => ⟨S_, .f32⟩
  | .hbm, ⟨88, _⟩ => ⟨S416x100, .f32⟩
  | .hbm, ⟨89, _⟩ => ⟨S416x100, .f32⟩
  | .hbm, ⟨90, _⟩ => ⟨S_, .i32⟩
  | .hbm, ⟨91, _⟩ => ⟨S_, .f32⟩
  | .hbm, ⟨92, _⟩ => ⟨S416x112, .f32⟩
  | .hbm, ⟨93, _⟩ => ⟨S4x100x100, .f32⟩
  | .hbm, ⟨94, _⟩ => ⟨S4x1x1, .f32⟩
  | .hbm, ⟨95, _⟩ => ⟨S4x100x100, .f32⟩
  | .hbm, ⟨96, _⟩ => ⟨S4x100x100, .f32⟩
  | .hbm, ⟨97, _⟩ => ⟨S_, .i32⟩
  | .hbm, ⟨98, _⟩ => ⟨S_, .f32⟩
  | .hbm, ⟨99, _⟩ => ⟨S4x104x100, .f32⟩
  | .hbm, ⟨100, _⟩ => ⟨S4x13x8x100, .f32⟩
  | .hbm, ⟨101, _⟩ => ⟨S13x4x8x100, .f32⟩
  | .hbm, ⟨102, _⟩ => ⟨S416x100, .f32⟩
  | .hbm, ⟨103, _⟩ => ⟨S_, .f32⟩
  | .hbm, ⟨104, _⟩ => ⟨S416x100, .f32⟩
  | .hbm, ⟨105, _⟩ => ⟨S416x100, .f32⟩
  | .hbm, ⟨106, _⟩ => ⟨S_, .i32⟩
  | .hbm, ⟨107, _⟩ => ⟨S_, .f32⟩
  | .hbm, ⟨108, _⟩ => ⟨S416x112, .f32⟩
  | .hbm, ⟨109, _⟩ => ⟨S416x240, .f32⟩
  | .hbm, ⟨110, _⟩ => ⟨S416x240, .bf16⟩
  | .hbm, ⟨111, _⟩ => ⟨S100x100, .f32⟩
  | .hbm, ⟨112, _⟩ => ⟨S_, .f32⟩
  | .hbm, ⟨113, _⟩ => ⟨S100x100, .f32⟩
  | .hbm, ⟨114, _⟩ => ⟨S100x100, .f32⟩
  | .hbm, ⟨115, _⟩ => ⟨S_, .i32⟩
  | .hbm, ⟨116, _⟩ => ⟨S_, .f32⟩
  | .hbm, ⟨117, _⟩ => ⟨S112x100, .f32⟩
  | .hbm, ⟨118, _⟩ => ⟨S112x100, .bf16⟩
  | .hbm, ⟨119, _⟩ => ⟨S1x100, .f32⟩
  | .hbm, ⟨120, _⟩ => ⟨S8192x100, .f32⟩
  | .local _ .vmem, ⟨0, _⟩ => ⟨S80x1x1024, .i32⟩
  | .local _ .vmem, ⟨1, _⟩ => ⟨S80x1x1024, .i32⟩
  | .local _ .vmem, ⟨2, _⟩ => ⟨S8x112, .f32⟩
  | .local _ .vmem, ⟨3, _⟩ => ⟨S416x8, .f32⟩
  | .local _ .vmem, ⟨4, _⟩ => ⟨S416x112, .f32⟩
  | .local _ .vmem, ⟨5, _⟩ => ⟨S416x112, .bf16⟩
  | .local _ .vmem, ⟨6, _⟩ => ⟨S416x240, .bf16⟩
  | .local _ .vmem, ⟨7, _⟩ => ⟨S112x100, .bf16⟩
  | .local _ .vmem, ⟨8, _⟩ => ⟨S1x100, .f32⟩
  | .local _ .vmem, ⟨9, _⟩ => ⟨S1024x100, .f32⟩
  | .local _ .vmem, ⟨10, _⟩ => ⟨S1024x100, .f32⟩
  | .local _ .vmem, ⟨11, _⟩ => ⟨S416x224, .bf16⟩
  | _, _ => ⟨S8192x80, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_cst_4 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_5 : Ref sig .tc := ⟨.hbm, 28, rfl⟩
abbrev main_call1_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_call3_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_c_9 : Ref sig .tc := ⟨.hbm, 59, rfl⟩
abbrev main_call4_v0 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_10 : Ref sig .tc := ⟨.hbm, 68, rfl⟩
abbrev main_call5_v0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_11 : Ref sig .tc := ⟨.hbm, 74, rfl⟩
abbrev main_call6_v0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_12 : Ref sig .tc := ⟨.hbm, 81, rfl⟩
abbrev main_call7_v0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_c_14 : Ref sig .tc := ⟨.hbm, 90, rfl⟩
abbrev main_call8_v0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_15 : Ref sig .tc := ⟨.hbm, 97, rfl⟩
abbrev main_call9_v0 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_16 : Ref sig .tc := ⟨.hbm, 103, rfl⟩
abbrev main_v63 : Ref sig .tc := ⟨.hbm, 104, rfl⟩
abbrev main_v64 : Ref sig .tc := ⟨.hbm, 105, rfl⟩
abbrev main_c_17 : Ref sig .tc := ⟨.hbm, 106, rfl⟩
abbrev main_call10_v0 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_c_19 : Ref sig .tc := ⟨.hbm, 115, rfl⟩
abbrev main_call11_v0 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c5_i32 : BitVec 32 := 5#32
  let v23 : BitVec 32 := Scalar.addi c0_i32 c5_i32
  let c1_i32 : BitVec 32 := 1#32
  ⟨c0_i32, v23, c1_i32⟩
def k0_off1 (k0_t1 : Fin k0_t1_loop.trips) (c0_i32_24 : BitVec 32) : Fin 3 → Nat :=
  let c0_i32 : BitVec 32 := 0#32
  let c1_i32 : BitVec 32 := 1#32
  let arg11 : BitVec 32 := Scf.iv c0_i32 c1_i32 k0_t1
  let c16_i32 : BitVec 32 := 16#32
  let v37 : BitVec 32 := Scalar.muli arg11 c16_i32
  let v38 : BitVec 32 := Scalar.addi v37 c0_i32_24
  let v39 : Index := Scalar.indexCast v38
  let c0_25 : Index := 0#32
  let c0_26 : Index := 0#32
  ![v39.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x112 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S416x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S416x112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S416x112 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S416x240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S112x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x80 : Shape := ⟨2, ![8192, 80]⟩
abbrev S100x8 : Shape := ⟨2, ![100, 8]⟩
abbrev S400x8 : Shape := ⟨2, ![400, 8]⟩
abbrev S400x100 : Shape := ⟨2, ![400, 100]⟩
abbrev S400 : Shape := ⟨1, ![400]⟩
abbrev S100x100 : Shape := ⟨2, ![100, 100]⟩
abbrev S100 : Shape := ⟨1, ![100]⟩
abbrev S_ : Shape := ⟨0, ![]⟩
abbrev S8192x80x1 : Shape := ⟨3, ![8192, 80, 1]⟩
abbrev S8192x80x8 : Shape := ⟨3, ![8192, 80, 8]⟩
abbrev S8192x80x400 : Shape := ⟨3, ![8192, 80, 400]⟩
abbrev S1x1x400 : Shape := ⟨3, ![1, 1, 400]⟩
abbrev S80x8192x400 : Shape := ⟨3, ![80, 8192, 400]⟩
abbrev S8192x100 : Shape := ⟨2, ![8192, 100]⟩
abbrev S80x8192x100 : Shape := ⟨3, ![80, 8192, 100]⟩
abbrev S1x8192x400 : Shape := ⟨3, ![1, 8192, 400]⟩
abbrev S8192x400 : Shape := ⟨2, ![8192, 400]⟩
abbrev S100x400 : Shape := ⟨2, ![100, 400]⟩
abbrev S1x8192x100 : Shape := ⟨3, ![1, 8192, 100]⟩
abbrev S8192x80x100 : Shape := ⟨3, ![8192, 80, 100]⟩
abbrev S8192x1x100 : Shape := ⟨3, ![8192, 1, 100]⟩
abbrev S1x100 : Shape := ⟨2, ![1, 100]⟩

abbrev nBuf : Space → Nat
  | .hbm => 166
  | .vmem => 0
  | .smem => 0
  | _ => 0

abbrev hbmTy0_0 (i : Nat) : BufTy := match i % 128 with
  | 0 => ⟨S8192x80, .i32⟩
  | 1 => ⟨S100x8, .f32⟩
  | 2 => ⟨S400x8, .f32⟩
  | 3 => ⟨S400x100, .f32⟩
  | 4 => ⟨S400, .f32⟩
  | 5 => ⟨S400, .f32⟩
  | 6 => ⟨S400x100, .f32⟩
  | 7 => ⟨S400x100, .f32⟩
  | 8 => ⟨S400, .f32⟩
  | 9 => ⟨S400, .f32⟩
  | 10 => ⟨S100x100, .f32⟩
  | 11 => ⟨S100, .f32⟩
  | 12 => ⟨S_, .i32⟩
  | 13 => ⟨S8192x80, .i32⟩
  | 14 => ⟨S8192x80, .i1⟩
  | 15 => ⟨S_, .i32⟩
  | 16 => ⟨S8192x80, .i32⟩
  | 17 => ⟨S8192x80, .i32⟩
  | 18 => ⟨S8192x80, .i32⟩
  | 19 => ⟨S8192x80x1, .i32⟩
  | 20 => ⟨S8192x80x8, .f32⟩
  | 21 => ⟨S400, .f32⟩
  | 22 => ⟨S8192x80x400, .f32⟩
  | 23 => ⟨S1x1x400, .f32⟩
  | 24 => ⟨S8192x80x400, .f32⟩
  | 25 => ⟨S8192x80x400, .f32⟩
  | 26 => ⟨S80x8192x400, .f32⟩
  | 27 => ⟨S_, .f32⟩
  | 28 => ⟨S8192x100, .f32⟩
  | 29 => ⟨S_, .f32⟩
  | 30 => ⟨S8192x100, .f32⟩
  | 31 => ⟨S_, .f32⟩
  | 32 => ⟨S80x8192x100, .f32⟩
  | 33 => ⟨S_, .i32⟩
  | 34 => ⟨S80x8192x400, .f32⟩
  | 35 => ⟨S400x100, .f32⟩
  | 36 => ⟨S_, .i32⟩
  | 37 => ⟨S8192x100, .f32⟩
  | 38 => ⟨S8192x100, .f32⟩
  | 39 => ⟨S80x8192x100, .f32⟩
  | 40 => ⟨S_, .i32⟩
  | 41 => ⟨S_, .i1⟩
  | 42 => ⟨S_, .i32⟩
  | 43 => ⟨S_, .i32⟩
  | 44 => ⟨S1x8192x400, .f32⟩
  | 45 => ⟨S8192x400, .f32⟩
  | 46 => ⟨S100x400, .f32⟩
  | 47 => ⟨S8192x400, .f32⟩
  | 48 => ⟨S8192x400, .f32⟩
  | 49 => ⟨S8192x100, .f32⟩
  | 50 => ⟨S8192x100, .f32⟩
  | 51 => ⟨S8192x100, .f32⟩
  | 52 => ⟨S8192x100, .f32⟩
  | 53 => ⟨S8192x100, .f32⟩
  | 54 => ⟨S8192x100, .f32⟩
  | 55 => ⟨S_, .f32⟩
  | 56 => ⟨S8192x100, .f32⟩
  | 57 => ⟨S8192x100, .f32⟩
  | 58 => ⟨S_, .f32⟩
  | 59 => ⟨S8192x100, .f32⟩
  | 60 => ⟨S8192x100, .f32⟩
  | 61 => ⟨S8192x100, .f32⟩
  | 62 => ⟨S8192x100, .f32⟩
  | 63 => ⟨S_, .f32⟩
  | 64 => ⟨S8192x100, .f32⟩
  | 65 => ⟨S8192x100, .f32⟩
  | 66 => ⟨S_, .f32⟩
  | 67 => ⟨S8192x100, .f32⟩
  | 68 => ⟨S8192x100, .f32⟩
  | 69 => ⟨S8192x100, .f32⟩
  | 70 => ⟨S8192x100, .f32⟩
  | 71 => ⟨S8192x100, .f32⟩
  | 72 => ⟨S_, .f32⟩
  | 73 => ⟨S8192x100, .f32⟩
  | 74 => ⟨S8192x100, .f32⟩
  | 75 => ⟨S_, .f32⟩
  | 76 => ⟨S8192x100, .f32⟩
  | 77 => ⟨S8192x100, .f32⟩
  | 78 => ⟨S8192x100, .f32⟩
  | 79 => ⟨S8192x100, .f32⟩
  | 80 => ⟨S8192x100, .f32⟩
  | 81 => ⟨S8192x100, .f32⟩
  | 82 => ⟨S8192x100, .f32⟩
  | 83 => ⟨S1x8192x100, .f32⟩
  | 84 => ⟨S_, .i32⟩
  | 85 => ⟨S_, .i32⟩
  | 86 => ⟨S80x8192x100, .f32⟩
  | 87 => ⟨S_, .i32⟩
  | 88 => ⟨S_, .i32⟩
  | 89 => ⟨S8192x80x100, .f32⟩
  | 90 => ⟨S400, .f32⟩
  | 91 => ⟨S8192x80x400, .f32⟩
  | 92 => ⟨S1x1x400, .f32⟩
  | 93 => ⟨S8192x80x400, .f32⟩
  | 94 => ⟨S8192x80x400, .f32⟩
  | 95 => ⟨S80x8192x400, .f32⟩
  | 96 => ⟨S_, .f32⟩
  | 97 => ⟨S8192x100, .f32⟩
  | 98 => ⟨S_, .f32⟩
  | 99 => ⟨S8192x100, .f32⟩
  | 100 => ⟨S_, .f32⟩
  | 101 => ⟨S80x8192x100, .f32⟩
  | 102 => ⟨S_, .i32⟩
  | 103 => ⟨S80x8192x400, .f32⟩
  | 104 => ⟨S400x100, .f32⟩
  | 105 => ⟨S_, .i32⟩
  | 106 => ⟨S8192x100, .f32⟩
  | 107 => ⟨S8192x100, .f32⟩
  | 108 => ⟨S80x8192x100, .f32⟩
  | 109 => ⟨S_, .i32⟩
  | 110 => ⟨S_, .i1⟩
  | 111 => ⟨S_, .i32⟩
  | 112 => ⟨S_, .i32⟩
  | 113 => ⟨S1x8192x400, .f32⟩
  | 114 => ⟨S8192x400, .f32⟩
  | 115 => ⟨S100x400, .f32⟩
  | 116 => ⟨S8192x400, .f32⟩
  | 117 => ⟨S8192x400, .f32⟩
  | 118 => ⟨S8192x100, .f32⟩
  | 119 => ⟨S8192x100, .f32⟩
  | 120 => ⟨S8192x100, .f32⟩
  | 121 => ⟨S8192x100, .f32⟩
  | 122 => ⟨S8192x100, .f32⟩
  | 123 => ⟨S8192x100, .f32⟩
  | 124 => ⟨S_, .f32⟩
  | 125 => ⟨S8192x100, .f32⟩
  | 126 => ⟨S8192x100, .f32⟩
  | 127 => ⟨S_, .f32⟩
  | _ => ⟨S8192x80, .i32⟩

abbrev hbmTy0_1 (i : Nat) : BufTy := match i % 128 with
  | 0 => ⟨S8192x100, .f32⟩
  | 1 => ⟨S8192x100, .f32⟩
  | 2 => ⟨S8192x100, .f32⟩
  | 3 => ⟨S8192x100, .f32⟩
  | 4 => ⟨S_, .f32⟩
  | 5 => ⟨S8192x100, .f32⟩
  | 6 => ⟨S8192x100, .f32⟩
  | 7 => ⟨S_, .f32⟩
  | 8 => ⟨S8192x100, .f32⟩
  | 9 => ⟨S8192x100, .f32⟩
  | 10 => ⟨S8192x100, .f32⟩
  | 11 => ⟨S8192x100, .f32⟩
  | 12 => ⟨S8192x100, .f32⟩
  | 13 => ⟨S_, .f32⟩
  | 14 => ⟨S8192x100, .f32⟩
  | 15 => ⟨S8192x100, .f32⟩
  | 16 => ⟨S_, .f32⟩
  | 17 => ⟨S8192x100, .f32⟩
  | 18 => ⟨S8192x100, .f32⟩
  | 19 => ⟨S8192x100, .f32⟩
  | 20 => ⟨S8192x100, .f32⟩
  | 21 => ⟨S8192x100, .f32⟩
  | 22 => ⟨S8192x100, .f32⟩
  | 23 => ⟨S8192x100, .f32⟩
  | 24 => ⟨S1x8192x100, .f32⟩
  | 25 => ⟨S_, .i32⟩
  | 26 => ⟨S_, .i32⟩
  | 27 => ⟨S80x8192x100, .f32⟩
  | 28 => ⟨S_, .i32⟩
  | 29 => ⟨S_, .i32⟩
  | 30 => ⟨S8192x80x100, .f32⟩
  | 31 => ⟨S8192x1x100, .f32⟩
  | 32 => ⟨S8192x100, .f32⟩
  | 33 => ⟨S100x100, .f32⟩
  | 34 => ⟨S8192x100, .f32⟩
  | 35 => ⟨S1x100, .f32⟩
  | 36 => ⟨S8192x100, .f32⟩
  | 37 => ⟨S8192x100, .f32⟩
  | _ => ⟨S8192x80, .i32⟩

abbrev hbmTy (i : Nat) : BufTy := match i / 128 with
  | 0 => hbmTy0_0 i
  | 1 => hbmTy0_1 i
  | _ => ⟨S8192x80, .i32⟩

abbrev bufTy : (tb : Table) → Fin (tcTables nBuf tb) → BufTy
  | .hbm, ⟨i, _⟩ => hbmTy i
  | _, _ => ⟨S8192x80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_c_3 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v16_3 : Ref sig .tc := ⟨.hbm, 37, rfl⟩
abbrev main_v16_4 : Ref sig .tc := ⟨.hbm, 38, rfl⟩
abbrev main_v16_5 : Ref sig .tc := ⟨.hbm, 39, rfl⟩
abbrev main_while0c_c_13 : Ref sig .tc := ⟨.hbm, 40, rfl⟩
abbrev main_while0c_v36 : Ref sig .tc := ⟨.hbm, 41, rfl⟩
abbrev main_while0b_call0_c : Ref sig .tc := ⟨.hbm, 42, rfl⟩
abbrev main_while0b_call0_c_0 : Ref sig .tc := ⟨.hbm, 43, rfl⟩
abbrev main_while0b_call0_v0 : Ref sig .tc := ⟨.hbm, 44, rfl⟩
abbrev main_while0b_v36 : Ref sig .tc := ⟨.hbm, 45, rfl⟩
abbrev main_while0b_v37 : Ref sig .tc := ⟨.hbm, 46, rfl⟩
abbrev main_while0b_v38 : Ref sig .tc := ⟨.hbm, 47, rfl⟩
abbrev main_while0b_v39 : Ref sig .tc := ⟨.hbm, 48, rfl⟩
abbrev main_while0b_v40 : Ref sig .tc := ⟨.hbm, 49, rfl⟩
abbrev main_while0b_v41 : Ref sig .tc := ⟨.hbm, 50, rfl⟩
abbrev main_while0b_v42 : Ref sig .tc := ⟨.hbm, 51, rfl⟩
abbrev main_while0b_v43 : Ref sig .tc := ⟨.hbm, 52, rfl⟩
abbrev main_while0b_v44 : Ref sig .tc := ⟨.hbm, 53, rfl⟩
abbrev main_while0b_v45 : Ref sig .tc := ⟨.hbm, 54, rfl⟩
abbrev main_while0b_cst_13 : Ref sig .tc := ⟨.hbm, 55, rfl⟩
abbrev main_while0b_v46 : Ref sig .tc := ⟨.hbm, 56, rfl⟩
abbrev main_while0b_v47 : Ref sig .tc := ⟨.hbm, 57, rfl⟩
abbrev main_while0b_cst_14 : Ref sig .tc := ⟨.hbm, 58, rfl⟩
abbrev main_while0b_v48 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_cst_15 : Ref sig .tc := ⟨.hbm, 63, rfl⟩
abbrev main_while0b_v52 : Ref sig .tc := ⟨.hbm, 64, rfl⟩
abbrev main_while0b_v53 : Ref sig .tc := ⟨.hbm, 65, rfl⟩
abbrev main_while0b_cst_16 : Ref sig .tc := ⟨.hbm, 66, rfl⟩
abbrev main_while0b_v54 : Ref sig .tc := ⟨.hbm, 67, rfl⟩
abbrev main_while0b_v55 : Ref sig .tc := ⟨.hbm, 68, rfl⟩
abbrev main_while0b_v56 : Ref sig .tc := ⟨.hbm, 69, rfl⟩
abbrev main_while0b_v57 : Ref sig .tc := ⟨.hbm, 70, rfl⟩
abbrev main_while0b_v58 : Ref sig .tc := ⟨.hbm, 71, rfl⟩
abbrev main_while0b_cst_17 : Ref sig .tc := ⟨.hbm, 72, rfl⟩
abbrev main_while0b_v59 : Ref sig .tc := ⟨.hbm, 73, rfl⟩
abbrev main_while0b_v60 : Ref sig .tc := ⟨.hbm, 74, rfl⟩
abbrev main_while0b_cst_18 : Ref sig .tc := ⟨.hbm, 75, rfl⟩
abbrev main_while0b_v61 : Ref sig .tc := ⟨.hbm, 76, rfl⟩
abbrev main_while0b_v62 : Ref sig .tc := ⟨.hbm, 77, rfl⟩
abbrev main_while0b_v63 : Ref sig .tc := ⟨.hbm, 78, rfl⟩
abbrev main_while0b_v64 : Ref sig .tc := ⟨.hbm, 79, rfl⟩
abbrev main_while0b_v65 : Ref sig .tc := ⟨.hbm, 80, rfl⟩
abbrev main_while0b_v66 : Ref sig .tc := ⟨.hbm, 81, rfl⟩
abbrev main_while0b_v67 : Ref sig .tc := ⟨.hbm, 82, rfl⟩
abbrev main_while0b_call1_v0 : Ref sig .tc := ⟨.hbm, 83, rfl⟩
abbrev main_while0b_call1_c : Ref sig .tc := ⟨.hbm, 84, rfl⟩
abbrev main_while0b_call1_c_0 : Ref sig .tc := ⟨.hbm, 85, rfl⟩
abbrev main_while0b_v68 : Ref sig .tc := ⟨.hbm, 86, rfl⟩
abbrev main_while0b_c_19 : Ref sig .tc := ⟨.hbm, 87, rfl⟩
abbrev main_while0b_v69 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_cst_4 : Ref sig .tc := ⟨.hbm, 96, rfl⟩
abbrev main_v24 : Ref sig .tc := ⟨.hbm, 97, rfl⟩
abbrev main_cst_5 : Ref sig .tc := ⟨.hbm, 98, rfl⟩
abbrev main_v25 : Ref sig .tc := ⟨.hbm, 99, rfl⟩
abbrev main_cst_6 : Ref sig .tc := ⟨.hbm, 100, rfl⟩
abbrev main_v26 : Ref sig .tc := ⟨.hbm, 101, rfl⟩
abbrev main_c_7 : Ref sig .tc := ⟨.hbm, 102, rfl⟩
abbrev main_v27_0 : Ref sig .tc := ⟨.hbm, 103, rfl⟩
abbrev main_v27_1 : Ref sig .tc := ⟨.hbm, 104, rfl⟩
abbrev main_v27_2 : Ref sig .tc := ⟨.hbm, 105, rfl⟩
abbrev main_v27_3 : Ref sig .tc := ⟨.hbm, 106, rfl⟩
abbrev main_v27_4 : Ref sig .tc := ⟨.hbm, 107, rfl⟩
abbrev main_v27_5 : Ref sig .tc := ⟨.hbm, 108, rfl⟩
abbrev main_while1c_c_13 : Ref sig .tc := ⟨.hbm, 109, rfl⟩
abbrev main_while1c_v36 : Ref sig .tc := ⟨.hbm, 110, rfl⟩
abbrev main_while1b_call2_c : Ref sig .tc := ⟨.hbm, 111, rfl⟩
abbrev main_while1b_call2_c_0 : Ref sig .tc := ⟨.hbm, 112, rfl⟩
abbrev main_while1b_call2_v0 : Ref sig .tc := ⟨.hbm, 113, rfl⟩
abbrev main_while1b_v36 : Ref sig .tc := ⟨.hbm, 114, rfl⟩
abbrev main_while1b_v37 : Ref sig .tc := ⟨.hbm, 115, rfl⟩
abbrev main_while1b_v38 : Ref sig .tc := ⟨.hbm, 116, rfl⟩
abbrev main_while1b_v39 : Ref sig .tc := ⟨.hbm, 117, rfl⟩
abbrev main_while1b_v40 : Ref sig .tc := ⟨.hbm, 118, rfl⟩
abbrev main_while1b_v41 : Ref sig .tc := ⟨.hbm, 119, rfl⟩
abbrev main_while1b_v42 : Ref sig .tc := ⟨.hbm, 120, rfl⟩
abbrev main_while1b_v43 : Ref sig .tc := ⟨.hbm, 121, rfl⟩
abbrev main_while1b_v44 : Ref sig .tc := ⟨.hbm, 122, rfl⟩
abbrev main_while1b_v45 : Ref sig .tc := ⟨.hbm, 123, rfl⟩
abbrev main_while1b_cst_13 : Ref sig .tc := ⟨.hbm, 124, rfl⟩
abbrev main_while1b_v46 : Ref sig .tc := ⟨.hbm, 125, rfl⟩
abbrev main_while1b_v47 : Ref sig .tc := ⟨.hbm, 126, rfl⟩
abbrev main_while1b_cst_14 : Ref sig .tc := ⟨.hbm, 127, rfl⟩
abbrev main_while1b_v48 : Ref sig .tc := ⟨.hbm, 128, rfl⟩
abbrev main_while1b_v49 : Ref sig .tc := ⟨.hbm, 129, rfl⟩
abbrev main_while1b_v50 : Ref sig .tc := ⟨.hbm, 130, rfl⟩
abbrev main_while1b_v51 : Ref sig .tc := ⟨.hbm, 131, rfl⟩
abbrev main_while1b_cst_15 : Ref sig .tc := ⟨.hbm, 132, rfl⟩
abbrev main_while1b_v52 : Ref sig .tc := ⟨.hbm, 133, rfl⟩
abbrev main_while1b_v53 : Ref sig .tc := ⟨.hbm, 134, rfl⟩
abbrev main_while1b_cst_16 : Ref sig .tc := ⟨.hbm, 135, rfl⟩
abbrev main_while1b_v54 : Ref sig .tc := ⟨.hbm, 136, rfl⟩
abbrev main_while1b_v55 : Ref sig .tc := ⟨.hbm, 137, rfl⟩
abbrev main_while1b_v56 : Ref sig .tc := ⟨.hbm, 138, rfl⟩
abbrev main_while1b_v57 : Ref sig .tc := ⟨.hbm, 139, rfl⟩
abbrev main_while1b_v58 : Ref sig .tc := ⟨.hbm, 140, rfl⟩
abbrev main_while1b_cst_17 : Ref sig .tc := ⟨.hbm, 141, rfl⟩
abbrev main_while1b_v59 : Ref sig .tc := ⟨.hbm, 142, rfl⟩
abbrev main_while1b_v60 : Ref sig .tc := ⟨.hbm, 143, rfl⟩
abbrev main_while1b_cst_18 : Ref sig .tc := ⟨.hbm, 144, rfl⟩
abbrev main_while1b_v61 : Ref sig .tc := ⟨.hbm, 145, rfl⟩
abbrev main_while1b_v62 : Ref sig .tc := ⟨.hbm, 146, rfl⟩
abbrev main_while1b_v63 : Ref sig .tc := ⟨.hbm, 147, rfl⟩
abbrev main_while1b_v64 : Ref sig .tc := ⟨.hbm, 148, rfl⟩
abbrev main_while1b_v65 : Ref sig .tc := ⟨.hbm, 149, rfl⟩
abbrev main_while1b_v66 : Ref sig .tc := ⟨.hbm, 150, rfl⟩
abbrev main_while1b_v67 : Ref sig .tc := ⟨.hbm, 151, rfl⟩
abbrev main_while1b_call3_v0 : Ref sig .tc := ⟨.hbm, 152, rfl⟩
abbrev main_while1b_call3_c : Ref sig .tc := ⟨.hbm, 153, rfl⟩
abbrev main_while1b_call3_c_0 : Ref sig .tc := ⟨.hbm, 154, rfl⟩
abbrev main_while1b_v68 : Ref sig .tc := ⟨.hbm, 155, rfl⟩
abbrev main_while1b_c_19 : Ref sig .tc := ⟨.hbm, 156, rfl⟩
abbrev main_while1b_v69 : Ref sig .tc := ⟨.hbm, 157, rfl⟩
abbrev main_v28 : Ref sig .tc := ⟨.hbm, 158, rfl⟩
abbrev main_v29 : Ref sig .tc := ⟨.hbm, 159, rfl⟩
abbrev main_v30 : Ref sig .tc := ⟨.hbm, 160, rfl⟩
abbrev main_v31 : Ref sig .tc := ⟨.hbm, 161, rfl⟩
abbrev main_v32 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩

abbrev nD : Nat := 1
abbrev τ : Topo := Topo.v7x

variable {F : FTy → Type} [FloatOps F]

abbrev main_while0_count : Scf.Loop 32 := ⟨0#32, 80#32, 1#32⟩

abbrev main_while1_count : Scf.Loop 32 := ⟨0#32, 80#32, 1#32⟩
-- ==== Proof.RefOps.lean ====
/-
  The reference program as lists of host operations: the three stretches of its main function (before, between and
  after its two loops), each loop's condition, and each loop's body in four stretches. Nothing is proved here except
  that each operation works on the core's own buffers, and that a stretch leaves every buffer it does not write.
-/
module

public import proofs.«01_k».proof.ReferenceIdeal
public import Idealize.ShloMosaic.Lib.StableHlo.RunLoop
public import Idealize.ShloMosaic.Lib.StableHlo.RunRead
public import proofs.«01_k».proof.Proof.Gen.ReferenceIdeal

@[expose] public section

noncomputable section

namespace Cert.ReferenceIdeal.Lstm

open Idealize Idealize.ShloMosaic Idealize.ShloMosaic.StableHlo Idealize.SL Idealize.SL.Sem
open Cert.ReferenceIdeal Cert.ReferenceIdeal.Facts₀

variable {F : FTy → Type} [FloatOps F]

/-- The operations before the first loop: the embedded tokens, their part of the gates of the first layer, the zero states. -/
abbrev mainOps0 : List (HloOp τ sig (Elt F)) :=
  [ StableHlo.nullary main_c (constantI S_ 32 0#32),
    StableHlo.unary main_c main_v0 (broadcastInDim S8192x80 ![] bcast_S_S8192x80 : (⟨S_, .i32⟩ : BufTy).Contents (Elt F) → (⟨S8192x80, .i32⟩ : BufTy).Contents (Elt F)),
    StableHlo.binary main_arg0 main_v0 main_v1 (cmpi .slt : (⟨S8192x80, .i32⟩ : BufTy).Contents (Elt F) → (⟨S8192x80, .i32⟩ : BufTy).Contents (Elt F) → (⟨S8192x80, .i1⟩ : BufTy).Contents (Elt F)),
    StableHlo.nullary main_c_0 (constantI S_ 32 100#32),
    StableHlo.unary main_c_0 main_v2 (broadcastInDim S8192x80 ![] bcast_S_S8192x80 : (⟨S_, .i32⟩ : BufTy).Contents (Elt F) → (⟨S8192x80, .i32⟩ : BufTy).Contents (Elt F)),
    StableHlo.binary main_arg0 main_v2 main_v3 (addi : (⟨S8192x80, .i32⟩ : BufTy).Contents (Elt F) → (⟨S8192x80, .i32⟩ : BufTy).Contents (Elt F) → (⟨S8192x80, .i32⟩ : BufTy).Contents (Elt F)),
    StableHlo.ternary main_v1 main_v3 main_arg0 main_v4 (select : (⟨S8192x80, .i1⟩ : BufTy).Contents (Elt F) → (⟨S8192x80, .i32⟩ : BufTy).Contents (Elt F) → (⟨S8192x80, .i32⟩ : BufTy).Contents (Elt F) → (⟨S8192x80, .i32⟩ : BufTy).Contents (Elt F)),
    StableHlo.unary main_v4 main_v5 (broadcastInDim S8192x80x1 ![0, 1] bcast_S8192x80_S8192x80x1_0_1 : (⟨S8192x80, .i32⟩ : BufTy).Contents (Elt F) → (⟨S8192x80x1, .i32⟩ : BufTy).Contents (Elt F)),
    StableHlo.binary main_arg1 main_v5 main_v6 ((fun x i => Host.gather gather_S100x8_S8192x80x1_S8192x80x8_2_0_n_n_0_2_18 x i) : (⟨S100x8, .f32⟩ : BufTy).Contents (Elt F) → (⟨S8192x80x1, .i32⟩ : BufTy).Contents (Elt F) → (⟨S8192x80x8, .f32⟩ : BufTy).Contents (Elt F)),
    StableHlo.binary main_arg4 main_arg5 main_v7 (addf : (⟨S400, .f32⟩ : BufTy).Contents (Elt F) → (⟨S400, .f32⟩ : BufTy).Contents (Elt F) → (⟨S400, .f32⟩ : BufTy).Contents (Elt F)),
    StableHlo.binary main_v6 main_arg2 main_v8 ((fun l r => Host.dotGeneral dot_S8192x80x8_S400x8_S8192x80x400_2_1_01_0_n_n none l r) : (⟨S8192x80x8, .f32⟩ : BufTy).Contents (Elt F) → (⟨S400x8, .f32⟩ : BufTy).Contents (Elt F) → (⟨S8192x80x400, .f32⟩ : BufTy).Contents (Elt F)),
    StableHlo.unary main_v7 main_v9 (broadcastInDim S1x1x400 ![2] bcast_S400_S1x1x400_2 : (⟨S400, .f32⟩ : BufTy).Contents (Elt F) → (⟨S1x1x400, .f32⟩ : BufTy).Contents (Elt F)),
    StableHlo.unary main_v9 main_v10 (broadcastInDim S8192x80x400 ![0, 1, 2] bcast_S1x1x400_S8192x80x400_0_1_2 : (⟨S1x1x400, .f32⟩ : BufTy).Contents (Elt F) → (⟨S8192x80x400, .f32⟩ : BufTy).Contents (Elt F)),
    StableHlo.binary main_v8 main_v10 main_v11 (addf : (⟨S8192x80x400, .f32⟩ : BufTy).Contents (Elt F) → (⟨S8192x80x400, .f32⟩ : BufTy).Contents (Elt F) → (⟨S8192x80x400, .f32⟩ : BufTy).Contents (Elt F)),
    StableHlo.unary main_v11 main_v12 ((transpose S80x8192x400 [1, 0, 2] · transposes_S8192x80x400_S80x8192x400_1_0_2) : (⟨S8192x80x400, .f32⟩ : BufTy).Contents (Elt F) → (⟨S80x8192x400, .f32⟩ : BufTy).Contents (Elt F)),
    StableHlo.nullary main_cst (constant S_ .f32 0x00000000#32),
    StableHlo.unary main_cst main_v13 (broadcastInDim S8192x100 ![] bcast_S_S8192x100 : (⟨S_, .f32⟩ : BufTy).Contents (Elt F) → (⟨S8192x100, .f32⟩ : BufTy).Contents (Elt F)),
    StableHlo.nullary main_cst_1 (constant S_ .f32 0x00000000#32),
    StableHlo.unary main_cst_1 main_v14 (broadcastInDim S8192x100 ![] bcast_S_S8192x100 : (⟨S_, .f32⟩ : BufTy).Contents (Elt F) → (⟨S8192x100, .f32⟩ : BufTy).Contents (Elt F)),
    StableHlo.nullary main_cst_2 (constant S_ .f32 0x00000000#32),
    StableHlo.unary main_cst_2 main_v15 (broadcastInDim S80x8192x100 ![] bcast_S_S80x8192x100 : (⟨S_, .f32⟩ : BufTy).Contents (Elt F) → (⟨S80x8192x100, .f32⟩ : BufTy).Contents (Elt F)),
    StableHlo.nullary main_c_3 (constantI S_ 32 0#32),
    StableHlo.unary main_v12 main_v16_0 id,
    StableHlo.unary main_arg3 main_v16_1 id,
    StableHlo.unary main_c_3 main_v16_2 id,
    StableHlo.unary main_v13 main_v16_3 id,
    StableHlo.unary main_v14 main_v16_4 id,
    StableHlo.unary main_v15 main_v16_5 id ]
theorem mainOps0_sub : (mainOps0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The references that these operations write, in order. -/
abbrev mainOps0W : List (Ref sig .tc) :=
  [main_c, main_v0, main_v1, main_c_0, main_v2, main_v3, main_v4, main_v5, main_v6, main_v7, main_v8, main_v9, main_v10, main_v11, main_v12, main_cst, main_v13, main_cst_1, main_v14, main_cst_2, main_v15, main_c_3, main_v16_0, main_v16_1, main_v16_2, main_v16_3, main_v16_4, main_v16_5]
theorem mainOps0_keep {r : Ref sig .tc} (hr : r ∉ mainOps0W) (V : Valuation τ sig (Elt F)) :
    after mainOps0 V (Proc.devRef .tc r) = V (Proc.devRef .tc r) :=
  after_unwritten mainOps0W rfl hr V

/-- Between the loops: the hidden values of the first layer times the input weights of the second, the zero states. -/
abbrev mainOps1 : List (HloOp τ sig (Elt F)) :=
  [ StableHlo.unary main_v16_5 main_v17 ((transpose S8192x80x100 [1, 0, 2] · transposes_S80x8192x100_S8192x80x100_1_0_2) : (⟨S80x8192x100, .f32⟩ : BufTy).Contents (Elt F) → (⟨S8192x80x100, .f32⟩ : BufTy).Contents (Elt F)),
    StableHlo.binary main_arg8 main_arg9 main_v18 (addf : (⟨S400, .f32⟩ : BufTy).Contents (Elt F) → (⟨S400, .f32⟩ : BufTy).Contents (Elt F) → (⟨S400, .f32⟩ : BufTy).Contents (Elt F)),
    StableHlo.binary main_v17 main_arg6 main_v19 ((fun l r => Host.dotGeneral dot_S8192x80x100_S400x100_S8192x80x400_2_1_01_0_n_n none l r) : (⟨S8192x80x100, .f32⟩ : BufTy).Contents (Elt F) → (⟨S400x100, .f32⟩ : BufTy).Contents (Elt F) → (⟨S8192x80x400, .f32⟩ : BufTy).Contents (Elt F)),
    StableHlo.unary main_v18 main_v20 (broadcastInDim S1x1x400 ![2] bcast_S400_S1x1x400_2 : (⟨S400, .f32⟩ : BufTy).Contents (Elt F) → (⟨S1x1x400, .f32⟩ : BufTy).Contents (Elt F)),
    StableHlo.unary main_v20 main_v21 (broadcastInDim S8192x80x400 ![0, 1, 2] bcast_S1x1x400_S8192x80x400_0_1_2 : (⟨S1x1x400, .f32⟩ : BufTy).Contents (Elt F) → (⟨S8192x80x400, .f32⟩ : BufTy).Contents (Elt F)),
    StableHlo.binary main_v19 main_v21 main_v22 (addf : (⟨S8192x80x400, .f32⟩ : BufTy).Contents (Elt F) → (⟨S8192x80x400, .f32⟩ : BufTy).Contents (Elt F) → (⟨S8192x80x400, .f32⟩ : BufTy).Contents (Elt F)),
    StableHlo.unary main_v22 main_v23 ((transpose S80x8192x400 [1, 0, 2] · transposes_S8192x80x400_S80x8192x400_1_0_2) : (⟨S8192x80x400, .f32⟩ : BufTy).Contents (Elt F) → (⟨S80x8192x400, .f32⟩ : BufTy).Contents (Elt F)),
    StableHlo.nullary main_cst_4 (constant S_ .f32 0x00000000#32),
    StableHlo.unary main_cst_4 main_v24 (broadcastInDim S8192x100 ![] bcast_S_S8192x100 : (⟨S_, .f32⟩ : BufTy).Contents (Elt F) → (⟨S8192x100, .f32⟩ : BufTy).Contents (Elt F)),
    StableHlo.nullary main_cst_5 (constant S_ .f32 0x00000000#32),
    StableHlo.unary main_cst_5 main_v25 (broadcastInDim S8192x100 ![] bcast_S_S8192x100 : (⟨S_, .f32⟩ : BufTy).Contents (Elt F) → (⟨S8192x100, .f32⟩ : BufTy).Contents (Elt F)),
    StableHlo.nullary main_cst_6 (constant S_ .f32 0x00000000#32),
    StableHlo.unary main_cst_6 main_v26 (broadcastInDim S80x8192x100 ![] bcast_S_S80x8192x100 : (⟨S_, .f32⟩ : BufTy).Contents (Elt F) → (⟨S80x8192x100, .f32⟩ : BufTy).Contents (Elt F)),
    StableHlo.nullary main_c_7 (constantI S_ 32 0#32),
    StableHlo.unary main_v23 main_v27_0 id,
    StableHlo.unary main_arg7 main_v27_1 id,
    StableHlo.unary main_c_7 main_v27_2 id,
    StableHlo.unary main_v24 main_v27_3 id,
    StableHlo.unary main_v25 main_v27_4 id,
    StableHlo.unary main_v26 main_v27_5 id ]
theorem mainOps1_sub : (mainOps1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The references that these operations write, in order. -/
abbrev mainOps1W : List (Ref sig .tc) :=
  [main_v17, main_v18, main_v19, main_v20, main_v21, main_v22, main_v23, main_cst_4, main_v24, main_cst_5, main_v25, main_cst_6, main_v26, main_c_7, main_v27_0, main_v27_1, main_v27_2, main_v27_3, main_v27_4, main_v27_5]
theorem mainOps1_keep {r : Ref sig .tc} (hr : r ∉ mainOps1W) (V : Valuation τ sig (Elt F)) :
    after mainOps1 V (Proc.devRef .tc r) = V (Proc.devRef .tc r) :=
  after_unwritten mainOps1W rfl hr V

/-- After the loops: the last hidden value of the second layer through the last linear map. -/
abbrev mainOps2 : List (HloOp τ sig (Elt F)) :=
  [ StableHlo.unary main_v27_5 main_v28 ((transpose S8192x80x100 [1, 0, 2] · transposes_S80x8192x100_S8192x80x100_1_0_2) : (⟨S80x8192x100, .f32⟩ : BufTy).Contents (Elt F) → (⟨S8192x80x100, .f32⟩ : BufTy).Contents (Elt F)),
    StableHlo.unary main_v28 main_v29 ((extractStridedSlice S8192x1x100 ![0, 79, 0] · slices_S8192x80x100_S8192x1x100_0_79_0) : (⟨S8192x80x100, .f32⟩ : BufTy).Contents (Elt F) → (⟨S8192x1x100, .f32⟩ : BufTy).Contents (Elt F)),
    StableHlo.reshape main_v29 main_v30 (rfl : (.f32 : EltTy) = .f32) shapeCasts_S8192x1x100_S8192x100,
    StableHlo.unary main_arg10 main_v31 ((transpose S100x100 [1, 0] · transposes_S100x100_S100x100_1_0) : (⟨S100x100, .f32⟩ : BufTy).Contents (Elt F) → (⟨S100x100, .f32⟩ : BufTy).Contents (Elt F)),
    StableHlo.binary main_v30 main_v31 main_v32 ((fun l r => Host.dotGeneral dot_S8192x100_S100x100_S8192x100_1_0_0_1_n_n none l r) : (⟨S8192x100, .f32⟩ : BufTy).Contents (Elt F) → (⟨S100x100, .f32⟩ : BufTy).Contents (Elt F) → (⟨S8192x100, .f32⟩ : BufTy).Contents (Elt F)),
    StableHlo.unary main_arg11 main_v33 (broadcastInDim S1x100 ![1] bcast_S100_S1x100_1 : (⟨S100, .f32⟩ : BufTy).Contents (Elt F) → (⟨S1x100, .f32⟩ : BufTy).Contents (Elt F)),
    StableHlo.unary main_v33 main_v34 (broadcastInDim S8192x100 ![0, 1] bcast_S1x100_S8192x100_0_1 : (⟨S1x100, .f32⟩ : BufTy).Contents (Elt F) → (⟨S8192x100, .f32⟩ : BufTy).Contents (Elt F)),
    StableHlo.binary main_v32 main_v34 main_v35 (addf : (⟨S8192x100, .f32⟩ : BufTy).Contents (Elt F) → (⟨S8192x100, .f32⟩ : BufTy).Contents (Elt F) → (⟨S8192x100, .f32⟩ : BufTy).Contents (Elt F)) ]
theorem mainOps2_sub : (mainOps2 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.binary_bufs_sub ..⟩
/-- The references that these operations write, in order. -/
abbrev mainOps2W : List (Ref sig .tc) :=
  [main_v28, main_v29, main_v30, main_v31, main_v32, main_v33, main_v34, main_v35]
theorem mainOps2_keep {r : Ref sig .tc} (hr : r ∉ mainOps2W) (V : Valuation τ sig (Elt F)) :
    after mainOps2 V (Proc.devRef .tc r) = V (Proc.devRef .tc r) :=
  after_unwritten mainOps2W rfl hr V

/-- The condition of loop 0: the counter below 80. -/
abbrev condOps0 : List (HloOp τ sig (Elt F)) :=
  [ StableHlo.nullary main_while0c_c_13 (constantI S_ 32 80#32),
    StableHlo.binary main_v16_2 main_while0c_c_13 main_while0c_v36 (cmpi .slt : (⟨S_, .i32⟩ : BufTy).Contents (Elt F) → (⟨S_, .i32⟩ : BufTy).Contents (Elt F) → (⟨S_, .i1⟩ : BufTy).Contents (Elt F)) ]
theorem condOps0_sub : (condOps0 : List (HloOp τ sig (Elt F))).Forall fun op => op.bufs ⊆ StableHlo.tcRefs τ sig :=
  ⟨StableHlo.nullary_bufs_sub .., StableHlo.binary_bufs_sub ..⟩
/-- The references that these operations write, in order. -/
abbrev condOps0W : List (Ref sig .tc) :=
  [main_while0c_c_13, main_while0c_v36]
theorem condOps0_keep {r : Ref sig .tc} (hr : r ∉ condOps0W) (V : Valuation τ sig (Elt F)) :
    after condOps0 V (Proc.devRef .tc r) = V (Proc.devRef .tc r) :=
  after_unwritten condOps0W rfl hr V

/-- Loop 0: read the row of the precomputed gate part that belongs to this time step. -/
abbrev bodyOps0_0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v16_0 : StableHlo.TRef sig ⟨S80x8192x400, .f32⟩) ![(.of main_v16_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x8192x400, .f32⟩) (fun x i => Host.dynamicSlice S1x8192x400 x (fun k => (i k (Shape.Idx.first h_S_)).toInt) sliceFits_S80x8192x400_S1x8192x400),
    StableHlo.TRef.reshape (.of main_while0b_call0_v0 : StableHlo.TRef sig ⟨S1x8192x400, .f32⟩) (.of main_while0b_v36 : StableHlo.TRef sig ⟨S8192x400, .f32⟩) (rfl : (.f32 : EltTy) = .f32) shapeCasts_S1x8192x400_S8192x400 ]
theorem bodyOps0_0_sub : (bodyOps0_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references that these operations write, in order. -/
abbrev bodyOps0_0W : List (Ref sig .tc) :=
  [main_while0b_call0_c, main_while0b_call0_c_0, main_while0b_call0_v0, main_while0b_v36]
theorem bodyOps0_0_keep {r : Ref sig .tc} (hr : r ∉ bodyOps0_0W) (V : Valuation τ sig (Elt F)) :
    after bodyOps0_0 V (Proc.devRef .tc r) = V (Proc.devRef .tc r) :=
  after_unwritten bodyOps0_0W rfl hr V

/-- Loop 0: the gates: that row plus the hidden state times the recurrent weights; then the new cell state and the new hidden state. -/
abbrev bodyOps0_1 : List (HloOp τ sig (Elt F)) :=
  [ StableHlo.unary main_v16_1 main_while0b_v37 ((transpose S100x400 [1, 0] · transposes_S400x100_S100x400_1_0) : (⟨S400x100, .f32⟩ : BufTy).Contents (Elt F) → (⟨S100x400, .f32⟩ : BufTy).Contents (Elt F)),
    StableHlo.binary main_v16_3 main_while0b_v37 main_while0b_v38 ((fun l r => Host.dotGeneral dot_S8192x100_S100x400_S8192x400_1_0_0_1_n_n none l r) : (⟨S8192x100, .f32⟩ : BufTy).Contents (Elt F) → (⟨S100x400, .f32⟩ : BufTy).Contents (Elt F) → (⟨S8192x400, .f32⟩ : BufTy).Contents (Elt F)),
    StableHlo.binary main_while0b_v36 main_while0b_v38 main_while0b_v39 (addf : (⟨S8192x400, .f32⟩ : BufTy).Contents (Elt F) → (⟨S8192x400, .f32⟩ : BufTy).Contents (Elt F) → (⟨S8192x400, .f32⟩ : BufTy).Contents (Elt F)),
    StableHlo.unary main_while0b_v39 main_while0b_v40 ((extractStridedSlice S8192x100 ![0, 0] · slices_S8192x400_S8192x100_0_0) : (⟨S8192x400, .f32⟩ : BufTy).Contents (Elt F) → (⟨S8192x100, .f32⟩ : BufTy).Contents (Elt F)),
    StableHlo.unary main_while0b_v39 main_while0b_v41 ((extractStridedSlice S8192x100 ![0, 100] · slices_S8192x400_S8192x100_0_100) : (⟨S8192x400, .f32⟩ : BufTy).Contents (Elt F) → (⟨S8192x100, .f32⟩ : BufTy).Contents (Elt F)),
    StableHlo.unary main_while0b_v39 main_while0b_v42 ((extractStridedSlice S8192x100 ![0, 200] · slices_S8192x400_S8192x100_0_200) : (⟨S8192x400, .f32⟩ : BufTy).Contents (Elt F) → (⟨S8192x100, .f32⟩ : BufTy).Contents (Elt F)),
    StableHlo.unary main_while0b_v39 main_while0b_v43 ((extractStridedSlice S8192x100 ![0, 300] · slices_S8192x400_S8192x100_0_300) : (⟨S8192x400, .f32⟩ : BufTy).Contents (Elt F) → (⟨S8192x100, .f32⟩ : BufTy).Contents (Elt F)),
    StableHlo.unary main_while0b_v40 main_while0b_v44 (Host.negf : (⟨S8192x100, .f32⟩ : BufTy).Contents (Elt F) → (⟨S8192x100, .f32⟩ : BufTy).Contents (Elt F)),
    StableHlo.unary main_while0b_v44 main_while0b_v45 (Host.exp : (⟨S8192x100, .f32⟩ : BufTy).Contents (Elt F) → (⟨S8192x100, .f32⟩ : BufTy).Contents (Elt F)),
    StableHlo.nullary main_while0b_cst_13 (constant S_ .f32 0x3F800000#32),
    StableHlo.unary main_while0b_cst_13 main_while0b_v46 (broadcastInDim S8192x100 ![] bcast_S_S8192x100 : (⟨S_, .f32⟩ : BufTy).Contents (Elt F) → (⟨S8192x100, .f32⟩ : BufTy).Contents (Elt F)),
    StableHlo.binary main_while0b_v46 main_while0b_v45 main_while0b_v47 (addf : (⟨S8192x100, .f32⟩ : BufTy).Contents (Elt F) → (⟨S8192x100, .f32⟩ : BufTy).Contents (Elt F) → (⟨S8192x100, .f32⟩ : BufTy).Contents (Elt F)),
    StableHlo.nullary main_while0b_cst_14 (constant S_ .f32 0x3F800000#32),
    StableHlo.unary main_while0b_cst_14 main_while0b_v48 (broadcastInDim S8192x100 ![] bcast_S_S8192x100 : (⟨S_, .f32⟩ : BufTy).Contents (Elt F) → (⟨S8192x100, .f32⟩ : BufTy).Contents (Elt F)),
    StableHlo.binary main_while0b_v48 main_while0b_v47 main_while0b_v49 (Host.divf : (⟨S8192x100, .f32⟩ : BufTy).Contents (Elt F) → (⟨S8192x100, .f32⟩ : BufTy).Contents (Elt F) → (⟨S8192x100, .f32⟩ : BufTy).Contents (Elt F)),
    StableHlo.unary main_while0b_v41 main_while0b_v50 (Host.negf : (⟨S8192x100, .f32⟩ : BufTy).Contents (Elt F) → (⟨S8192x100, .f32⟩ : BufTy).Contents (Elt F)),
    StableHlo.unary main_while0b_v50 main_while0b_v51 (Host.exp : (⟨S8192x100, .f32⟩ : BufTy).Contents (Elt F) → (⟨S8192x100, .f32⟩ : BufTy).Contents (Elt F)),
    StableHlo.nullary main_while0b_cst_15 (constant S_ .f32 0x3F800000#32),
    StableHlo.unary main_while0b_cst_15 main_while0b_v52 (broadcastInDim S8192x100 ![] bcast_S_S8192x100 : (⟨S_, .f32⟩ : BufTy).Contents (Elt F) → (⟨S8192x100, .f32⟩ : BufTy).Contents (Elt F)),
    StableHlo.binary main_while0b_v52 main_while0b_v51 main_while0b_v53 (addf : (⟨S8192x100, .f32⟩ : BufTy).Contents (Elt F) → (⟨S8192x100, .f32⟩ : BufTy).Contents (Elt F) → (⟨S8192x100, .f32⟩ : BufTy).Contents (Elt F)),
    StableHlo.nullary main_while0b_cst_16 (constant S_ .f32 0x3F800000#32),
    StableHlo.unary main_while0b_cst_16 main_while0b_v54 (broadcastInDim S8192x100 ![] bcast_S_S8192x100 : (⟨S_, .f32⟩ : BufTy).Contents (Elt F) → (⟨S8192x100, .f32⟩ : BufTy).Contents (Elt F)),
    StableHlo.binary main_while0b_v54 main_while0b_v53 main_while0b_v55 (Host.divf : (⟨S8192x100, .f32⟩ : BufTy).Contents (Elt F) → (⟨S8192x100, .f32⟩ : BufTy).Contents (Elt F) → (⟨S8192x100, .f32⟩ : BufTy).Contents (Elt F)),
    StableHlo.unary main_while0b_v42 main_while0b_v56 (Host.tanh : (⟨S8192x100, .f32⟩ : BufTy).Contents (Elt F) → (⟨S8192x100, .f32⟩ : BufTy).Contents (Elt F)),
    StableHlo.unary main_while0b_v43 main_while0b_v57 (Host.negf : (⟨S8192x100, .f32⟩ : BufTy).Contents (Elt F) → (⟨S8192x100, .f32⟩ : BufTy).Contents (Elt F)),
    StableHlo.unary main_while0b_v57 main_while0b_v58 (Host.exp : (⟨S8192x100, .f32⟩ : BufTy).Contents (Elt F) → (⟨S8192x100, .f32⟩ : BufTy).Contents (Elt F)),
    StableHlo.nullary main_while0b_cst_17 (constant S_ .f32 0x3F800000#32),
    StableHlo.unary main_while0b_cst_17 main_while0b_v59 (broadcastInDim S8192x100 ![] bcast_S_S8192x100 : (⟨S_, .f32⟩ : BufTy).Contents (Elt F) → (⟨S8192x100, .f32⟩ : BufTy).Contents (Elt F)),
    StableHlo.binary main_while0b_v59 main_while0b_v58 main_while0b_v60 (addf : (⟨S8192x100, .f32⟩ : BufTy).Contents (Elt F) → (⟨S8192x100, .f32⟩ : BufTy).Contents (Elt F) → (⟨S8192x100, .f32⟩ : BufTy).Contents (Elt F)),
    StableHlo.nullary main_while0b_cst_18 (constant S_ .f32 0x3F800000#32),
    StableHlo.unary main_while0b_cst_18 main_while0b_v61 (broadcastInDim S8192x100 ![] bcast_S_S8192x100 : (⟨S_, .f32⟩ : BufTy).Contents (Elt F) → (⟨S8192x100, .f32⟩ : BufTy).Contents (Elt F)),
    StableHlo.binary main_while0b_v61 main_while0b_v60 main_while0b_v62 (Host.divf : (⟨S8192x100, .f32⟩ : BufTy).Contents (Elt F) → (⟨S8192x100, .f32⟩ : BufTy).Contents (Elt F) → (⟨S8192x100, .f32⟩ : BufTy).Contents (Elt F)),
    StableHlo.binary main_while0b_v55 main_v16_4 main_while0b_v63 (mulf : (⟨S8192x100, .f32⟩ : BufTy).Contents (Elt F) → (⟨S8192x100, .f32⟩ : BufTy).Contents (Elt F) → (⟨S8192x100, .f32⟩ : BufTy).Contents (Elt F)),
    StableHlo.binary main_while0b_v49 main_while0b_v56 main_while0b_v64 (mulf : (⟨S8192x100, .f32⟩ : BufTy).Contents (Elt F) → (⟨S8192x100, .f32⟩ : BufTy).Contents (Elt F) → (⟨S8192x100, .f32⟩ : BufTy).Contents (Elt F)),
    StableHlo.binary main_while0b_v63 main_while0b_v64 main_while0b_v65 (addf : (⟨S8192x100, .f32⟩ : BufTy).Contents (Elt F) → (⟨S8192x100, .f32⟩ : BufTy).Contents (Elt F) → (⟨S8192x100, .f32⟩ : BufTy).Contents (Elt F)),
    StableHlo.unary main_while0b_v65 main_while0b_v66 (Host.tanh : (⟨S8192x100, .f32⟩ : BufTy).Contents (Elt F) → (⟨S8192x100, .f32⟩ : BufTy).Contents (Elt F)),
    StableHlo.binary main_while0b_v62 main_while0b_v66 main_while0b_v67 (mulf : (⟨S8192x100, .f32⟩ : BufTy).Contents (Elt F) → (⟨S8192x100, .f32⟩ : BufTy).Contents (Elt F) → (⟨S8192x100, .f32⟩ : BufTy).Contents (Elt F)) ]
theorem bodyOps0_1_sub : (bodyOps0_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references that these operations write, in order. -/
abbrev bodyOps0_1W : List (Ref sig .tc) :=
  [main_while0b_v37, main_while0b_v38, main_while0b_v39, main_while0b_v40, main_while0b_v41, main_while0b_v42, main_while0b_v43, main_while0b_v44, main_while0b_v45, main_while0b_cst_13, main_while0b_v46, main_while0b_v47, main_while0b_cst_14, main_while0b_v48, main_while0b_v49, main_while0b_v50, main_while0b_v51, main_while0b_cst_15, main_while0b_v52, main_while0b_v53, main_while0b_cst_16, main_while0b_v54, main_while0b_v55, main_while0b_v56, main_while0b_v57, main_while0b_v58, main_while0b_cst_17, main_while0b_v59, main_while0b_v60, main_while0b_cst_18, main_while0b_v61, main_while0b_v62, main_while0b_v63, main_while0b_v64, main_while0b_v65, main_while0b_v66, main_while0b_v67]
theorem bodyOps0_1_keep {r : Ref sig .tc} (hr : r ∉ bodyOps0_1W) (V : Valuation τ sig (Elt F)) :
    after bodyOps0_1 V (Proc.devRef .tc r) = V (Proc.devRef .tc r) :=
  after_unwritten bodyOps0_1W rfl hr V

/-- Loop 0: write the new hidden state into the array of all hidden states. -/
abbrev bodyOps0_2 : List (HloOp τ sig (Elt F)) :=
  [ StableHlo.TRef.unary (.of main_while0b_v67 : StableHlo.TRef sig ⟨S8192x100, .f32⟩) (.of main_while0b_call1_v0 : StableHlo.TRef sig ⟨S1x8192x100, .f32⟩) (broadcastInDim S1x8192x100 ![1, 2] bcast_S8192x100_S1x8192x100_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v16_5 : StableHlo.TRef sig ⟨S80x8192x100, .f32⟩) (.of main_while0b_call1_v0 : StableHlo.TRef sig ⟨S1x8192x100, .f32⟩) ![(.of main_v16_2 : StableHlo.TRef sig ⟨S_, .i32⟩), (.of main_while0b_call1_c : StableHlo.TRef sig ⟨S_, .i32⟩), (.of main_while0b_call1_c_0 : StableHlo.TRef sig ⟨S_, .i32⟩)] (.of main_while0b_v68 : StableHlo.TRef sig ⟨S80x8192x100, .f32⟩) (fun x u i => Host.dynamicUpdateSlice x u (fun k => (i k (Shape.Idx.first h_S_)).toInt) updateFits_S80x8192x100_S1x8192x100) ]
theorem bodyOps0_2_sub : (bodyOps0_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references that these operations write, in order. -/
abbrev bodyOps0_2W : List (Ref sig .tc) :=
  [main_while0b_call1_v0, main_while0b_call1_c, main_while0b_call1_c_0, main_while0b_v68]
theorem bodyOps0_2_keep {r : Ref sig .tc} (hr : r ∉ bodyOps0_2W) (V : Valuation τ sig (Elt F)) :
    after bodyOps0_2 V (Proc.devRef .tc r) = V (Proc.devRef .tc r) :=
  after_unwritten bodyOps0_2W rfl hr V

/-- Loop 0: count, and carry the new values over. -/
abbrev bodyOps0_3 : List (HloOp τ sig (Elt F)) :=
  [ StableHlo.nullary main_while0b_c_19 (constantI S_ 32 1#32),
    StableHlo.binary main_v16_2 main_while0b_c_19 main_while0b_v69 (addi : (⟨S_, .i32⟩ : BufTy).Contents (Elt F) → (⟨S_, .i32⟩ : BufTy).Contents (Elt F) → (⟨S_, .i32⟩ : BufTy).Contents (Elt F)),
    StableHlo.unary main_while0b_v69 main_v16_2 id,
    StableHlo.unary main_while0b_v67 main_v16_3 id,
    StableHlo.unary main_while0b_v65 main_v16_4 id,
    StableHlo.unary main_while0b_v68 main_v16_5 id ]
theorem bodyOps0_3_sub : (bodyOps0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The references that these operations write, in order. -/
abbrev bodyOps0_3W : List (Ref sig .tc) :=
  [main_while0b_c_19, main_while0b_v69, main_v16_2, main_v16_3, main_v16_4, main_v16_5]
theorem bodyOps0_3_keep {r : Ref sig .tc} (hr : r ∉ bodyOps0_3W) (V : Valuation τ sig (Elt F)) :
    after bodyOps0_3 V (Proc.devRef .tc r) = V (Proc.devRef .tc r) :=
  after_unwritten bodyOps0_3W rfl hr V

/-- The condition of loop 1: the counter below 80. -/
abbrev condOps1 : List (HloOp τ sig (Elt F)) :=
  [ StableHlo.nullary main_while1c_c_13 (constantI S_ 32 80#32),
    StableHlo.binary main_v27_2 main_while1c_c_13 main_while1c_v36 (cmpi .slt : (⟨S_, .i32⟩ : BufTy).Contents (Elt F) → (⟨S_, .i32⟩ : BufTy).Contents (Elt F) → (⟨S_, .i1⟩ : BufTy).Contents (Elt F)) ]
theorem condOps1_sub : (condOps1 : List (HloOp τ sig (Elt F))).Forall fun op => op.bufs ⊆ StableHlo.tcRefs τ sig :=
  ⟨StableHlo.nullary_bufs_sub .., StableHlo.binary_bufs_sub ..⟩
/-- The references that these operations write, in order. -/
abbrev condOps1W : List (Ref sig .tc) :=
  [main_while1c_c_13, main_while1c_v36]
theorem condOps1_keep {r : Ref sig .tc} (hr : r ∉ condOps1W) (V : Valuation τ sig (Elt F)) :
    after condOps1 V (Proc.devRef .tc r) = V (Proc.devRef .tc r) :=
  after_unwritten condOps1W rfl hr V

/-- Loop 1: read the row of the precomputed gate part that belongs to this time step. -/
abbrev bodyOps1_0 : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v27_0 : StableHlo.TRef sig ⟨S80x8192x400, .f32⟩) ![(.of main_v27_2 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x8192x400, .f32⟩) (fun x i => Host.dynamicSlice S1x8192x400 x (fun k => (i k (Shape.Idx.first h_S_)).toInt) sliceFits_S80x8192x400_S1x8192x400),
    StableHlo.TRef.reshape (.of main_while1b_call2_v0 : StableHlo.TRef sig ⟨S1x8192x400, .f32⟩) (.of main_while1b_v36 : StableHlo.TRef sig ⟨S8192x400, .f32⟩) (rfl : (.f32 : EltTy) = .f32) shapeCasts_S1x8192x400_S8192x400 ]
theorem bodyOps1_0_sub : (bodyOps1_0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The references that these operations write, in order. -/
abbrev bodyOps1_0W : List (Ref sig .tc) :=
  [main_while1b_call2_c, main_while1b_call2_c_0, main_while1b_call2_v0, main_while1b_v36]
theorem bodyOps1_0_keep {r : Ref sig .tc} (hr : r ∉ bodyOps1_0W) (V : Valuation τ sig (Elt F)) :
    after bodyOps1_0 V (Proc.devRef .tc r) = V (Proc.devRef .tc r) :=
  after_unwritten bodyOps1_0W rfl hr V

/-- Loop 1: the gates: that row plus the hidden state times the recurrent weights; then the new cell state and the new hidden state. -/
abbrev bodyOps1_1 : List (HloOp τ sig (Elt F)) :=
  [ StableHlo.unary main_v27_1 main_while1b_v37 ((transpose S100x400 [1, 0] · transposes_S400x100_S100x400_1_0) : (⟨S400x100, .f32⟩ : BufTy).Contents (Elt F) → (⟨S100x400, .f32⟩ : BufTy).Contents (Elt F)),
    StableHlo.binary main_v27_3 main_while1b_v37 main_while1b_v38 ((fun l r => Host.dotGeneral dot_S8192x100_S100x400_S8192x400_1_0_0_1_n_n none l r) : (⟨S8192x100, .f32⟩ : BufTy).Contents (Elt F) → (⟨S100x400, .f32⟩ : BufTy).Contents (Elt F) → (⟨S8192x400, .f32⟩ : BufTy).Contents (Elt F)),
    StableHlo.binary main_while1b_v36 main_while1b_v38 main_while1b_v39 (addf : (⟨S8192x400, .f32⟩ : BufTy).Contents (Elt F) → (⟨S8192x400, .f32⟩ : BufTy).Contents (Elt F) → (⟨S8192x400, .f32⟩ : BufTy).Contents (Elt F)),
    StableHlo.unary main_while1b_v39 main_while1b_v40 ((extractStridedSlice S8192x100 ![0, 0] · slices_S8192x400_S8192x100_0_0) : (⟨S8192x400, .f32⟩ : BufTy).Contents (Elt F) → (⟨S8192x100, .f32⟩ : BufTy).Contents (Elt F)),
    StableHlo.unary main_while1b_v39 main_while1b_v41 ((extractStridedSlice S8192x100 ![0, 100] · slices_S8192x400_S8192x100_0_100) : (⟨S8192x400, .f32⟩ : BufTy).Contents (Elt F) → (⟨S8192x100, .f32⟩ : BufTy).Contents (Elt F)),
    StableHlo.unary main_while1b_v39 main_while1b_v42 ((extractStridedSlice S8192x100 ![0, 200] · slices_S8192x400_S8192x100_0_200) : (⟨S8192x400, .f32⟩ : BufTy).Contents (Elt F) → (⟨S8192x100, .f32⟩ : BufTy).Contents (Elt F)),
    StableHlo.unary main_while1b_v39 main_while1b_v43 ((extractStridedSlice S8192x100 ![0, 300] · slices_S8192x400_S8192x100_0_300) : (⟨S8192x400, .f32⟩ : BufTy).Contents (Elt F) → (⟨S8192x100, .f32⟩ : BufTy).Contents (Elt F)),
    StableHlo.unary main_while1b_v40 main_while1b_v44 (Host.negf : (⟨S8192x100, .f32⟩ : BufTy).Contents (Elt F) → (⟨S8192x100, .f32⟩ : BufTy).Contents (Elt F)),
    StableHlo.unary main_while1b_v44 main_while1b_v45 (Host.exp : (⟨S8192x100, .f32⟩ : BufTy).Contents (Elt F) → (⟨S8192x100, .f32⟩ : BufTy).Contents (Elt F)),
    StableHlo.nullary main_while1b_cst_13 (constant S_ .f32 0x3F800000#32),
    StableHlo.unary main_while1b_cst_13 main_while1b_v46 (broadcastInDim S8192x100 ![] bcast_S_S8192x100 : (⟨S_, .f32⟩ : BufTy).Contents (Elt F) → (⟨S8192x100, .f32⟩ : BufTy).Contents (Elt F)),
    StableHlo.binary main_while1b_v46 main_while1b_v45 main_while1b_v47 (addf : (⟨S8192x100, .f32⟩ : BufTy).Contents (Elt F) → (⟨S8192x100, .f32⟩ : BufTy).Contents (Elt F) → (⟨S8192x100, .f32⟩ : BufTy).Contents (Elt F)),
    StableHlo.nullary main_while1b_cst_14 (constant S_ .f32 0x3F800000#32),
    StableHlo.unary main_while1b_cst_14 main_while1b_v48 (broadcastInDim S8192x100 ![] bcast_S_S8192x100 : (⟨S_, .f32⟩ : BufTy).Contents (Elt F) → (⟨S8192x100, .f32⟩ : BufTy).Contents (Elt F)),
    StableHlo.binary main_while1b_v48 main_while1b_v47 main_while1b_v49 (Host.divf : (⟨S8192x100, .f32⟩ : BufTy).Contents (Elt F) → (⟨S8192x100, .f32⟩ : BufTy).Contents (Elt F) → (⟨S8192x100, .f32⟩ : BufTy).Contents (Elt F)),
    StableHlo.unary main_while1b_v41 main_while1b_v50 (Host.negf : (⟨S8192x100, .f32⟩ : BufTy).Contents (Elt F) → (⟨S8192x100, .f32⟩ : BufTy).Contents (Elt F)),
    StableHlo.unary main_while1b_v50 main_while1b_v51 (Host.exp : (⟨S8192x100, .f32⟩ : BufTy).Contents (Elt F) → (⟨S8192x100, .f32⟩ : BufTy).Contents (Elt F)),
    StableHlo.nullary main_while1b_cst_15 (constant S_ .f32 0x3F800000#32),
    StableHlo.unary main_while1b_cst_15 main_while1b_v52 (broadcastInDim S8192x100 ![] bcast_S_S8192x100 : (⟨S_, .f32⟩ : BufTy).Contents (Elt F) → (⟨S8192x100, .f32⟩ : BufTy).Contents (Elt F)),
    StableHlo.binary main_while1b_v52 main_while1b_v51 main_while1b_v53 (addf : (⟨S8192x100, .f32⟩ : BufTy).Contents (Elt F) → (⟨S8192x100, .f32⟩ : BufTy).Contents (Elt F) → (⟨S8192x100, .f32⟩ : BufTy).Contents (Elt F)),
    StableHlo.nullary main_while1b_cst_16 (constant S_ .f32 0x3F800000#32),
    StableHlo.unary main_while1b_cst_16 main_while1b_v54 (broadcastInDim S8192x100 ![] bcast_S_S8192x100 : (⟨S_, .f32⟩ : BufTy).Contents (Elt F) → (⟨S8192x100, .f32⟩ : BufTy).Contents (Elt F)),
    StableHlo.binary main_while1b_v54 main_while1b_v53 main_while1b_v55 (Host.divf : (⟨S8192x100, .f32⟩ : BufTy).Contents (Elt F) → (⟨S8192x100, .f32⟩ : BufTy).Contents (Elt F) → (⟨S8192x100, .f32⟩ : BufTy).Contents (Elt F)),
    StableHlo.unary main_while1b_v42 main_while1b_v56 (Host.tanh : (⟨S8192x100, .f32⟩ : BufTy).Contents (Elt F) → (⟨S8192x100, .f32⟩ : BufTy).Contents (Elt F)),
    StableHlo.unary main_while1b_v43 main_while1b_v57 (Host.negf : (⟨S8192x100, .f32⟩ : BufTy).Contents (Elt F) → (⟨S8192x100, .f32⟩ : BufTy).Contents (Elt F)),
    StableHlo.unary main_while1b_v57 main_while1b_v58 (Host.exp : (⟨S8192x100, .f32⟩ : BufTy).Contents (Elt F) → (⟨S8192x100, .f32⟩ : BufTy).Contents (Elt F)),
    StableHlo.nullary main_while1b_cst_17 (constant S_ .f32 0x3F800000#32),
    StableHlo.unary main_while1b_cst_17 main_while1b_v59 (broadcastInDim S8192x100 ![] bcast_S_S8192x100 : (⟨S_, .f32⟩ : BufTy).Contents (Elt F) → (⟨S8192x100, .f32⟩ : BufTy).Contents (Elt F)),
    StableHlo.binary main_while1b_v59 main_while1b_v58 main_while1b_v60 (addf : (⟨S8192x100, .f32⟩ : BufTy).Contents (Elt F) → (⟨S8192x100, .f32⟩ : BufTy).Contents (Elt F) → (⟨S8192x100, .f32⟩ : BufTy).Contents (Elt F)),
    StableHlo.nullary main_while1b_cst_18 (constant S_ .f32 0x3F800000#32),
    StableHlo.unary main_while1b_cst_18 main_while1b_v61 (broadcastInDim S8192x100 ![] bcast_S_S8192x100 : (⟨S_, .f32⟩ : BufTy).Contents (Elt F) → (⟨S8192x100, .f32⟩ : BufTy).Contents (Elt F)),
    StableHlo.binary main_while1b_v61 main_while1b_v60 main_while1b_v62 (Host.divf : (⟨S8192x100, .f32⟩ : BufTy).Contents (Elt F) → (⟨S8192x100, .f32⟩ : BufTy).Contents (Elt F) → (⟨S8192x100, .f32⟩ : BufTy).Contents (Elt F)),
    StableHlo.binary main_while1b_v55 main_v27_4 main_while1b_v63 (mulf : (⟨S8192x100, .f32⟩ : BufTy).Contents (Elt F) → (⟨S8192x100, .f32⟩ : BufTy).Contents (Elt F) → (⟨S8192x100, .f32⟩ : BufTy).Contents (Elt F)),
    StableHlo.binary main_while1b_v49 main_while1b_v56 main_while1b_v64 (mulf : (⟨S8192x100, .f32⟩ : BufTy).Contents (Elt F) → (⟨S8192x100, .f32⟩ : BufTy).Contents (Elt F) → (⟨S8192x100, .f32⟩ : BufTy).Contents (Elt F)),
    StableHlo.binary main_while1b_v63 main_while1b_v64 main_while1b_v65 (addf : (⟨S8192x100, .f32⟩ : BufTy).Contents (Elt F) → (⟨S8192x100, .f32⟩ : BufTy).Contents (Elt F) → (⟨S8192x100, .f32⟩ : BufTy).Contents (Elt F)),
    StableHlo.unary main_while1b_v65 main_while1b_v66 (Host.tanh : (⟨S8192x100, .f32⟩ : BufTy).Contents (Elt F) → (⟨S8192x100, .f32⟩ : BufTy).Contents (Elt F)),
    StableHlo.binary main_while1b_v62 main_while1b_v66 main_while1b_v67 (mulf : (⟨S8192x100, .f32⟩ : BufTy).Contents (Elt F) → (⟨S8192x100, .f32⟩ : BufTy).Contents (Elt F) → (⟨S8192x100, .f32⟩ : BufTy).Contents (Elt F)) ]
theorem bodyOps1_1_sub : (bodyOps1_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- The references that these operations write, in order. -/
abbrev bodyOps1_1W : List (Ref sig .tc) :=
  [main_while1b_v37, main_while1b_v38, main_while1b_v39, main_while1b_v40, main_while1b_v41, main_while1b_v42, main_while1b_v43, main_while1b_v44, main_while1b_v45, main_while1b_cst_13, main_while1b_v46, main_while1b_v47, main_while1b_cst_14, main_while1b_v48, main_while1b_v49, main_while1b_v50, main_while1b_v51, main_while1b_cst_15, main_while1b_v52, main_while1b_v53, main_while1b_cst_16, main_while1b_v54, main_while1b_v55, main_while1b_v56, main_while1b_v57, main_while1b_v58, main_while1b_cst_17, main_while1b_v59, main_while1b_v60, main_while1b_cst_18, main_while1b_v61, main_while1b_v62, main_while1b_v63, main_while1b_v64, main_while1b_v65, main_while1b_v66, main_while1b_v67]
theorem bodyOps1_1_keep {r : Ref sig .tc} (hr : r ∉ bodyOps1_1W) (V : Valuation τ sig (Elt F)) :
    after bodyOps1_1 V (Proc.devRef .tc r) = V (Proc.devRef .tc r) :=
  after_unwritten bodyOps1_1W rfl hr V

/-- Loop 1: write the new hidden state into the array of all hidden states. -/
abbrev bodyOps1_2 : List (HloOp τ sig (Elt F)) :=
  [ StableHlo.TRef.unary (.of main_while1b_v67 : StableHlo.TRef sig ⟨S8192x100, .f32⟩) (.of main_while1b_call3_v0 : StableHlo.TRef sig ⟨S1x8192x100, .f32⟩) (broadcastInDim S1x8192x100 ![1, 2] bcast_S8192x100_S1x8192x100_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v27_5 : StableHlo.TRef sig ⟨S80x8192x100, .f32⟩) (.of main_while1b_call3_v0 : StableHlo.TRef sig ⟨S1x8192x100, .f32⟩) ![(.of main_v27_2 : StableHlo.TRef sig ⟨S_, .i32⟩), (.of main_while1b_call3_c : StableHlo.TRef sig ⟨S_, .i32⟩), (.of main_while1b_call3_c_0 : StableHlo.TRef sig ⟨S_, .i32⟩)] (.of main_while1b_v68 : StableHlo.TRef sig ⟨S80x8192x100, .f32⟩) (fun x u i => Host.dynamicUpdateSlice x u (fun k => (i k (Shape.Idx.first h_S_)).toInt) updateFits_S80x8192x100_S1x8192x100) ]
theorem bodyOps1_2_sub : (bodyOps1_2 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The references that these operations write, in order. -/
abbrev bodyOps1_2W : List (Ref sig .tc) :=
  [main_while1b_call3_v0, main_while1b_call3_c, main_while1b_call3_c_0, main_while1b_v68]
theorem bodyOps1_2_keep {r : Ref sig .tc} (hr : r ∉ bodyOps1_2W) (V : Valuation τ sig (Elt F)) :
    after bodyOps1_2 V (Proc.devRef .tc r) = V (Proc.devRef .tc r) :=
  after_unwritten bodyOps1_2W rfl hr V

/-- Loop 1: count, and carry the new values over. -/
abbrev bodyOps1_3 : List (HloOp τ sig (Elt F)) :=
  [ StableHlo.nullary main_while1b_c_19 (constantI S_ 32 1#32),
    StableHlo.binary main_v27_2 main_while1b_c_19 main_while1b_v69 (addi : (⟨S_, .i32⟩ : BufTy).Contents (Elt F) → (⟨S_, .i32⟩ : BufTy).Contents (Elt F) → (⟨S_, .i32⟩ : BufTy).Contents (Elt F)),
    StableHlo.unary main_while1b_v69 main_v27_2 id,
    StableHlo.unary main_while1b_v67 main_v27_3 id,
    StableHlo.unary main_while1b_v65 main_v27_4 id,
    StableHlo.unary main_while1b_v68 main_v27_5 id ]
theorem bodyOps1_3_sub : (bodyOps1_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The references that these operations write, in order. -/
abbrev bodyOps1_3W : List (Ref sig .tc) :=
  [main_while1b_c_19, main_while1b_v69, main_v27_2, main_v27_3, main_v27_4, main_v27_5]
theorem bodyOps1_3_keep {r : Ref sig .tc} (hr : r ∉ bodyOps1_3W) (V : Valuation τ sig (Elt F)) :
    after bodyOps1_3 V (Proc.devRef .tc r) = V (Proc.devRef .tc r) :=
  after_unwritten bodyOps1_3W rfl hr V

end Cert.ReferenceIdeal.Lstm

end
-- ==== Proof.RefStep.lean ====
/-
  The reference's arithmetic as functions of arrays: the gates of one time step, the new cell and hidden state, one trip
  of a loop on the values it carries, the part of the gates that is computed before each loop, and the last linear map.
-/
module

public import proofs.«01_k».proof.ReferenceIdeal
public import proofs.«01_k».proof.Proof.Gen.ReferenceIdeal

@[expose] public section

noncomputable section

namespace Cert.ReferenceIdeal.Lstm

open Idealize.ShloMosaic Idealize.SL.Sem
open Cert.ReferenceIdeal Cert.ReferenceIdeal.Facts₀

variable {F : FTy → Type} [FloatOps F]

/-- The contents of a float array of a shape. -/
abbrev Arr (F : FTy → Type) [FloatOps F] (s : Shape) : Type := (⟨s, .f32⟩ : BufTy).Contents (Elt F)

/-- A 32-bit counter. -/
abbrev Ctr (F : FTy → Type) [FloatOps F] : Type := (⟨S_, .i32⟩ : BufTy).Contents (Elt F)

/-- The array of ones. -/
def ones : Arr F S8192x100 := broadcastInDim S8192x100 ![] bcast_S_S8192x100 (constant S_ .f32 0x3F800000#32)

/-- The array of zeros. -/
def zeros : Arr F S8192x100 := broadcastInDim S8192x100 ![] bcast_S_S8192x100 (constant S_ .f32 0x00000000#32)

/-- The zero array of all hidden states. -/
def zerosAll : Arr F S80x8192x100 := broadcastInDim S80x8192x100 ![] bcast_S_S80x8192x100 (constant S_ .f32 0x00000000#32)

/-- 1 / (1 + exp (-x)), entry by entry. -/
def sig1 (x : Arr F S8192x100) : Arr F S8192x100 := Host.divf ones (addf ones (Host.exp (Host.negf x)))

/-- Where row `k` of a stack starts: at `(k, 0, 0)`. -/
def rowAt (k : Ctr F) : Fin 3 → ℤ :=
  fun j => ((![k, constantI S_ 32 0#32, constantI S_ 32 0#32] : Fin 3 → Ctr F) j (Shape.Idx.first h_S_)).toInt

/-- The row of the precomputed part of the gates that belongs to the time step that the counter names. -/
def gateRow (pre : Arr F S80x8192x400) (k : Ctr F) : Arr F S8192x400 :=
  shapeCast S8192x400 (Host.dynamicSlice S1x8192x400 pre (rowAt k) sliceFits_S80x8192x400_S1x8192x400)
    shapeCasts_S1x8192x400_S8192x400

/-- The gates of one time step: the precomputed row plus the hidden state times the recurrent weights. -/
def gates (row : Arr F S8192x400) (w : Arr F S400x100) (h : Arr F S8192x100) : Arr F S8192x400 :=
  addf row (Host.dotGeneral dot_S8192x100_S100x400_S8192x400_1_0_0_1_n_n none h
    (transpose S100x400 [1, 0] w transposes_S400x100_S100x400_1_0))

/-- The array of all hidden states with the row that the counter names replaced. -/
def putRow (hs : Arr F S80x8192x100) (h : Arr F S8192x100) (k : Ctr F) : Arr F S80x8192x100 :=
  Host.dynamicUpdateSlice hs (broadcastInDim S1x8192x100 ![1, 2] bcast_S8192x100_S1x8192x100_1_2 h) (rowAt k)
    updateFits_S80x8192x100_S1x8192x100

/-- The new cell state from the gates and the old one. -/
def newC (g : Arr F S8192x400) (c : Arr F S8192x100) : Arr F S8192x100 :=
  addf (mulf (sig1 (extractStridedSlice S8192x100 ![0, 100] g slices_S8192x400_S8192x100_0_100)) c)
    (mulf (sig1 (extractStridedSlice S8192x100 ![0, 0] g slices_S8192x400_S8192x100_0_0))
      (Host.tanh (extractStridedSlice S8192x100 ![0, 200] g slices_S8192x400_S8192x100_0_200)))

/-- The new hidden state from the gates and the new cell state. -/
def newH (g : Arr F S8192x400) (c : Arr F S8192x100) : Arr F S8192x100 :=
  mulf (sig1 (extractStridedSlice S8192x100 ![0, 300] g slices_S8192x400_S8192x100_0_300)) (Host.tanh c)

/-- What a loop carries: the counter, the hidden state, the cell state, and the array of all hidden states. -/
abbrev Carry (F : FTy → Type) [FloatOps F] : Type := Ctr F × Arr F S8192x100 × Arr F S8192x100 × Arr F S80x8192x100

/-- One trip of a loop on what it carries. -/
def trip (pre : Arr F S80x8192x400) (w : Arr F S400x100) (s : Carry F) : Carry F :=
  let g := gates (gateRow pre s.1) w s.2.1
  let c := newC g s.2.2.1
  let h := newH g c
  (addi s.1 (constantI S_ 32 1#32), h, c, putRow s.2.2.2 h s.1)

/-- What a loop starts from. -/
def start : Carry F := (constantI S_ 32 0#32, zeros, zeros, zerosAll)

/-- The carried values after some trips. -/
def trips (pre : Arr F S80x8192x400) (w : Arr F S400x100) : ℕ → Carry F
  | 0 => start
  | n + 1 => trip pre w (trips pre w n)

/-- The part of the first layer's gates computed before its loop. -/
def pre1 (x : (⟨S8192x80, .i32⟩ : BufTy).Contents (Elt F)) (emb : Arr F S100x8) (wih : Arr F S400x8) (b b' : Arr F S400) :
    Arr F S80x8192x400 :=
  transpose S80x8192x400 [1, 0, 2]
    (addf (Host.dotGeneral dot_S8192x80x8_S400x8_S8192x80x400_2_1_01_0_n_n none
        (Host.gather gather_S100x8_S8192x80x1_S8192x80x8_2_0_n_n_0_2_18 emb
          (broadcastInDim S8192x80x1 ![0, 1] bcast_S8192x80_S8192x80x1_0_1
            (select (cmpi .slt x (broadcastInDim S8192x80 ![] bcast_S_S8192x80 (constantI S_ 32 0#32)))
              (addi x (broadcastInDim S8192x80 ![] bcast_S_S8192x80 (constantI S_ 32 100#32))) x))) wih)
      (broadcastInDim S8192x80x400 ![0, 1, 2] bcast_S1x1x400_S8192x80x400_0_1_2
        (broadcastInDim S1x1x400 ![2] bcast_S400_S1x1x400_2 (addf b b'))))
    transposes_S8192x80x400_S80x8192x400_1_0_2

/-- The part of the second layer's gates computed before its loop, from all the hidden states of the first. -/
def pre2 (hs : Arr F S80x8192x100) (wih : Arr F S400x100) (b b' : Arr F S400) : Arr F S80x8192x400 :=
  transpose S80x8192x400 [1, 0, 2]
    (addf (Host.dotGeneral dot_S8192x80x100_S400x100_S8192x80x400_2_1_01_0_n_n none
        (transpose S8192x80x100 [1, 0, 2] hs transposes_S80x8192x100_S8192x80x100_1_0_2) wih)
      (broadcastInDim S8192x80x400 ![0, 1, 2] bcast_S1x1x400_S8192x80x400_0_1_2
        (broadcastInDim S1x1x400 ![2] bcast_S400_S1x1x400_2 (addf b b'))))
    transposes_S8192x80x400_S80x8192x400_1_0_2

/-- The last linear map, of the last hidden state of the second layer. -/
def logits (hs : Arr F S80x8192x100) (w : Arr F S100x100) (b : Arr F S100) : Arr F S8192x100 :=
  addf (Host.dotGeneral dot_S8192x100_S100x100_S8192x100_1_0_0_1_n_n none
      (shapeCast S8192x100 (extractStridedSlice S8192x1x100 ![0, 79, 0]
        (transpose S8192x80x100 [1, 0, 2] hs transposes_S80x8192x100_S8192x80x100_1_0_2)
        slices_S8192x80x100_S8192x1x100_0_79_0) shapeCasts_S8192x1x100_S8192x100)
      (transpose S100x100 [1, 0] w transposes_S100x100_S100x100_1_0))
    (broadcastInDim S8192x100 ![0, 1] bcast_S1x100_S8192x100_0_1 (broadcastInDim S1x100 ![1] bcast_S100_S1x100_1 b))

end Cert.ReferenceIdeal.Lstm

end
-- ==== Proof.RefLoops.lean ====
/-
  The run of a program of host operations whose main function is three stretches with a counted loop between the first
  and the second and another between the second and the third. Stated for any such program, from the library's segments
  of one loop.
-/
module

public import Idealize.ShloMosaic.Lib.StableHlo.RunLoop

@[expose] public section

noncomputable section

namespace Cert.TwoLoops

open Idealize Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe
open Idealize.ShloMosaic.Pipeline (CSeg Ticket PCfg ucRefs unscopedBufs_held sub_ucRefs)

variable {nD : Nat} {τ : Topo} {sig : RefSig} {F : FTy → Type} {Λ₀ : SL.Sem.Labels}

-- no ghost state of the program's own is needed: it launches no kernel
local notation "𝕄" => MT nD τ sig Unit (Elt F) ℕ (Option PUnit) ℕ

section

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline, so nothing to admit. -/
abbrev adm₀ : (p : Fin 0) → (pcs p).Adm := fun p => p.elim0

/-- No kernel launch, so no ticket. -/
abbrev tk₀ : Fin 0 → Ticket (Ix := Unit) (Name := ℕ) (U := Option PUnit) (Lvl := ℕ) (nD := nD) (τ := τ) pcs (adm₀ pcs) :=
  fun j => j.elim0

/-- Without pipelines the map of staging cells is injective. -/
theorem cells_inj : Function.Injective (Pipeline.cellOf (nD := nD) (τ := τ) (Pipeline.pin pcs (adm₀ pcs))) :=
  fun k => k.1.elim0

/-- What every segment hands on unchanged: the core owes nothing. -/
abbrev Owe (c : Dev nD) : sProp 𝕄 := iprop(∃ W, owes (c : Thread nD τ) (0 : CellTallies nD τ sig Unit) W)

/-- One counted loop of the program: its label, its two regions, their operations, and its trip count. -/
structure Loop where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  step : loops l = HostLoop.step l cond body
  condOps : List (HloOp τ sig (Elt F))
  bodyI : List (List (HloOp τ sig (Elt F)))
  plain : Plain bodyI
  chain : body = Pipeline.chain (bodyI.map fun ops => (seq ops : Prog _ PUnit))
  n : ℕ

variable {pcs loops}

/-- The buffers at a loop's exit, from those at its entry. -/
def Loop.exit (K : Loop pcs loops) (W : Dev nD → Valuation τ sig (Elt F)) (c : Dev nD) : Valuation τ sig (Elt F) :=
  after K.condOps (atTrip K.condOps K.bodyI W K.n c)

variable (pcs loops)

variable {pcs defs₀ loops}

/-- A condition that meets its specification meets it beside the core's tally. -/
theorem loopCond (K : Loop pcs loops) {W : Dev nD → Valuation τ sig (Elt F)}
    (h : CondSpec pcs defs₀ loops K.cond K.condOps K.bodyI W K.n) :
    LoopCond pcs defs₀ Variants.none loops Owe K.cond K.condOps K.bodyI W K.n := fun k hk c bd => by
  have out : ∀ v : Elt F .i1,
      iprop(iprop(⌜v = 1#1 ↔ k < K.n⌝ ∗ boundary (c : Thread nD τ)
          ∗ held (c : Thread nD τ) (ucRefs τ sig) (after K.condOps (atTrip K.condOps K.bodyI W k c))) ∗ Owe c)
        ⊢ iprop(⌜v = 1#1 ↔ k < K.n⌝ ∗ boundary (c : Thread nD τ)
          ∗ held (c : Thread nD τ) (ucRefs τ sig) (after K.condOps (atTrip K.condOps K.bodyI W k c)) ∗ Owe c) := fun v => by
    iintro ⟨⟨%hv, Hb, Hh⟩, HO⟩
    isplitr; · ipureintro; exact hv
    isplitl [Hb]; · iexact Hb
    isplitl [Hh] <;> iassumption
  refine BIBase.Entails.trans ?_ (((sep_mono_left (h k hk c bd)).trans (wp_frame_r _ _ _)).trans (wp_mono _ _ _ out))
  iintro ⟨Hb, Hh, HO⟩
  isplitl [Hb Hh]
  · isplitl [Hb] <;> iassumption
  iexact HO

/-- A loop as a segment of the program. -/
abbrev Loop.seg (K : Loop pcs loops) (W : Dev nD → Valuation τ sig (Elt F))
    (h : CondSpec pcs defs₀ loops K.cond K.condOps K.bodyI W K.n) :
    CSeg pcs (adm₀ pcs) defs₀ Variants.none (fun _ => ∅) (fun _ _ => 0) loops (tk₀ pcs) :=
  loopSeg _ _ _ _ _ _ _ _ K.l K.cond K.body K.step K.condOps K.bodyI K.plain K.chain K.n W Owe (loopCond K h)

/-- A stretch list as segments of the program. -/
abbrev stretch (items : List (List (HloOp τ sig (Elt F)))) (h : Plain items) (V : Dev nD → Valuation τ sig (Elt F)) :
    List (CSeg pcs (adm₀ pcs) defs₀ Variants.none (fun _ => ∅) (fun _ _ => 0) loops (tk₀ pcs)) :=
  segsOf _ _ _ _ _ _ _ _ Owe items h V

end

/-- Every weakly fair run of "stretch, loop, stretch, loop, stretch" ends, with each buffer at the fold of the
    operations: the first stretch, the first loop's trips, the second stretch, the second loop's trips, the third. -/
theorem run_two_loops [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (A B : Loop pcs loops) (ops0 ops1 ops2 : List (HloOp τ sig (Elt F)))
    (h0 : Plain [ops0]) (h1 : Plain [ops1]) (h2 : Plain [ops2])
    (hmain : ∀ c, main c = Pipeline.chain [seq ops0, HostLoop.enter A.l, seq ops1, HostLoop.enter B.l, seq ops2])
    (m : (ℓ : Loc nD τ sig) → Buf (Elt F) ℓ) (ρ : Dev nD → PrngReg)
    (hA : CondSpec pcs defs₀ loops A.cond A.condOps A.bodyI (fun c => after ops0 (launchContents m c)) A.n)
    (hB : CondSpec pcs defs₀ loops B.cond B.condOps B.bodyI
      (fun c => after ops1 (A.exit (fun c => after ops0 (launchContents m c)) c)) B.n) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b)
          = after ops2 (B.exit (fun c => after ops1 (A.exit (fun c => after ops0 (launchContents m c)) c)) c)
              (Proc.devRef .tc b)) := by
  let V0 : Dev nD → Valuation τ sig (Elt F) := fun c => after ops0 (launchContents m c)
  let V1 : Dev nD → Valuation τ sig (Elt F) := fun c => after ops1 (A.exit V0 c)
  let V2 : Dev nD → Valuation τ sig (Elt F) := fun c => after ops2 (B.exit V1 c)
  let segs : List (CSeg pcs (adm₀ pcs) defs₀ Variants.none (fun _ => ∅) (fun _ _ => 0) loops (tk₀ pcs)) :=
    stretch [ops0] h0 (launchContents m)
      ++ A.seg V0 hA :: (stretch [ops1] h1 (A.exit V0) ++ B.seg V1 hB :: stretch [ops2] h2 (B.exit V1))
  have hch : CSeg.Chains (fun c => iprop(held (c : Thread nD τ) (ucRefs τ sig) (launchContents m c) ∗ Owe c)) segs
      (fun c => iprop(iprop(held (c : Thread nD τ) (ucRefs τ sig) (V2 c)) ∗ ∃ W, owes (c : Thread nD τ) (0 : CellTallies nD τ sig Unit) W)) :=
    CSeg.Chains.append (segsOf_chains _ _ _ _ _ _ _ _ Owe [ops0] h0 _)
      ⟨fun _ => .rfl, CSeg.Chains.append (segsOf_chains _ _ _ _ _ _ _ _ Owe [ops1] h1 _)
        ⟨fun _ => .rfl, segsOf_chains _ _ _ _ _ _ _ _ Owe [ops2] h2 _⟩⟩
  refine Pipeline.θ_run_regions_loop_kit (Ix := Unit) (Name := ℕ) (U := Option PUnit) (Lvl := ℕ) (J := Fin 0) (P := Fin 0) (Val := Elt F)
    pcs (adm₀ pcs) (cells_inj pcs) defs₀ Variants.none (fun _ => ∅) (fun _ _ => 0) loops (tk₀ pcs) m ρ main segs
    (fun c Q => by rw [hmain c]; exact .rfl)
    (Pipeline.CSeg.pairwise_disjoint_of_T_empty _ fun s _ => Finset.eq_empty_of_isEmpty s.T)
    (O₀ := 0) (hL := fun _ _ => rfl) (G := fun _ => iprop(emp)) (u₀ := 1) ?_
    (T₀ := fun c => iprop(held (c : Thread nD τ) (ucRefs τ sig) (launchContents m c) ∗ Owe c))
    (Tₙ := fun c => iprop(held (c : Thread nD τ) (ucRefs τ sig) (V2 c)))
    (hch := hch) ?_
    (QY := fun c s => ∀ b ∈ ucRefs τ sig, s.mem ((c : Dev nD), b) = V2 c b) ?_
    (hQ := fun _ h c b hb => h c _ (devRef_mem_ucRefs b hb))
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by
        rw [BI.bigSep_emp_const])
      iempintro
  · refine Pipeline.initEach (fun _ => ∅) (fun _ _ => 0) fun c => ?_
    rw [show unscopedBufs c (fun b => m ((c : Thread nD τ).loc b)) = held (c : Thread nD τ) (ucRefs τ sig) (launchContents m c)
      from unscopedBufs_held c (launchContents m c)]
    iintro ⟨⟨Hh, -, HO, -, -, -⟩, -⟩
    imodintro
    isplitl [Hh]; · iexact Hh
    iexists ∅; iexact HO
  · intro c s'
    unfold held
    iintro ⟨Hh, HSI⟩
    ihave Hr := (pointsTo_read_all (ucRefs τ sig) (fun b => ((c : Dev nD), b)) (fun b => V2 c b) s') $$ [Hh HSI]
    · isplitl [Hh] <;> iassumption
    icases Hr with ⟨%h, HSI⟩
    imodintro
    isplitr; · ipureintro; exact h
    iexact HSI

end Cert.TwoLoops

end
-- ==== Proof.RefRun.lean ====
/-
  The run of the reference: what each stretch of operations leaves in the buffers the loops carry, the two loops'
  conditions, and the whole run.
-/
module

public import proofs.«01_k».proof.Proof.RefOps
public import proofs.«01_k».proof.Proof.RefStep
public import proofs.«01_k».proof.Proof.RefLoops
public import Idealize.ShloMosaic.Lib.StableHlo.RunRead
public import Idealize.ShloMosaic.Lib.StableHlo.RunClose
public import Idealize.ShloMosaic.Lib.Scf.ExitTest
public import Idealize.ShloMosaic.Lib.Quiescent

@[expose] public section

noncomputable section

namespace Cert.ReferenceIdeal.Lstm

open Idealize Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.ReferenceIdeal Cert.ReferenceIdeal.Facts₀ Cert.TwoLoops
open TcCoe

variable {F : FTy → Type} [FloatOps F]

/-! ## The program is its lists -/

/-- The main function is its three stretches and two loops in order. -/
theorem main_chain (c : Dev nD) : main (F := F) c
    = Pipeline.chain [seq mainOps0, HostLoop.enter 0, seq mainOps1, HostLoop.enter 1, seq mainOps2] := by
  rewrite [chain_seq_cons, Pipeline.chain_cons, chain_seq_cons, Pipeline.chain_cons, chain_seq_cons]
  chain_rfl

/-- The first loop's body, stretch by stretch. -/
abbrev body0 : List (List (HloOp τ sig (Elt F))) := [bodyOps0_0, bodyOps0_1, bodyOps0_2, bodyOps0_3]

/-- The second loop's body, stretch by stretch. -/
abbrev body1 : List (List (HloOp τ sig (Elt F))) := [bodyOps1_0, bodyOps1_1, bodyOps1_2, bodyOps1_3]

/-- The first loop's body is its pieces in turn. -/
theorem body0_chain : main_while0_body (F := F) = Pipeline.chain (body0.map fun ops => (seq ops : Prog _ PUnit)) := by
  show _ = Pipeline.chain [seq bodyOps0_0, seq bodyOps0_1, seq bodyOps0_2, seq bodyOps0_3]
  rewrite [Pipeline.chain_cons, chain_seq_cons, Pipeline.chain_cons, chain_seq_cons]
  chain_rfl

/-- The second loop's body is its pieces in turn. -/
theorem body1_chain : main_while1_body (F := F) = Pipeline.chain (body1.map fun ops => (seq ops : Prog _ PUnit)) := by
  show _ = Pipeline.chain [seq bodyOps1_0, seq bodyOps1_1, seq bodyOps1_2, seq bodyOps1_3]
  rewrite [Pipeline.chain_cons, chain_seq_cons, Pipeline.chain_cons, chain_seq_cons]
  chain_rfl

/-- The first loop. -/
def loop0 : Loop (pcfgs (F := F)) loops where
  l := 0
  cond := main_while0_cond
  body := main_while0_body
  step := rfl
  condOps := condOps0
  bodyI := body0
  plain := .cons bodyOps0_0_sub (.cons bodyOps0_1_sub (.cons bodyOps0_2_sub (.cons bodyOps0_3_sub .nil)))
  chain := body0_chain
  n := 80

/-- The second loop. -/
def loop1 : Loop (pcfgs (F := F)) loops where
  l := 1
  cond := main_while1_cond
  body := main_while1_body
  step := rfl
  condOps := condOps1
  bodyI := body1
  plain := .cons bodyOps1_0_sub (.cons bodyOps1_1_sub (.cons bodyOps1_2_sub (.cons bodyOps1_3_sub .nil)))
  chain := body1_chain
  n := 80

/-! ## What the stretches leave -/

/-- What the first loop carries. -/
abbrev carry0 (V : Valuation τ sig (Elt F)) : Carry F :=
  (V (Proc.devRef .tc main_v16_2), V (Proc.devRef .tc main_v16_3), V (Proc.devRef .tc main_v16_4), V (Proc.devRef .tc main_v16_5))

/-- What the second loop carries. -/
abbrev carry1 (V : Valuation τ sig (Elt F)) : Carry F :=
  (V (Proc.devRef .tc main_v27_2), V (Proc.devRef .tc main_v27_3), V (Proc.devRef .tc main_v27_4), V (Proc.devRef .tc main_v27_5))

/-! ### The first loop -/

/-- The first loop's body, piece by piece: the step's row of input parts … -/
theorem row0 (V : Valuation τ sig (Elt F)) : after bodyOps0_0 V (Proc.devRef .tc main_while0b_v36)
    = gateRow (V (Proc.devRef .tc main_v16_0)) (V (Proc.devRef .tc main_v16_2)) := by
  after_results_entrywise []

/-- … the new cell state … -/
theorem cell0 (V : Valuation τ sig (Elt F)) : after bodyOps0_1 V (Proc.devRef .tc main_while0b_v65)
    = newC (gates (V (Proc.devRef .tc main_while0b_v36)) (V (Proc.devRef .tc main_v16_1)) (V (Proc.devRef .tc main_v16_3)))
        (V (Proc.devRef .tc main_v16_4)) := by
  after_reads_simp
  rfl

/-- … the new hidden state … -/
theorem hid0 (V : Valuation τ sig (Elt F)) : after bodyOps0_1 V (Proc.devRef .tc main_while0b_v67)
    = newH (gates (V (Proc.devRef .tc main_while0b_v36)) (V (Proc.devRef .tc main_v16_1)) (V (Proc.devRef .tc main_v16_3)))
        (newC (gates (V (Proc.devRef .tc main_while0b_v36)) (V (Proc.devRef .tc main_v16_1)) (V (Proc.devRef .tc main_v16_3)))
          (V (Proc.devRef .tc main_v16_4))) := by
  after_reads_simp
  rfl

/-- … the array of hidden states with the new one in its row … -/
theorem all0 (V : Valuation τ sig (Elt F)) : after bodyOps0_2 V (Proc.devRef .tc main_while0b_v68)
    = putRow (V (Proc.devRef .tc main_v16_5)) (V (Proc.devRef .tc main_while0b_v67)) (V (Proc.devRef .tc main_v16_2)) := by
  after_results_entrywise []

/-- … and what is carried to the next step. -/
theorem carried0 (V : Valuation τ sig (Elt F)) : carry0 (after bodyOps0_3 V)
    = (addi (V (Proc.devRef .tc main_v16_2)) (constantI S_ 32 1#32), V (Proc.devRef .tc main_while0b_v67),
        V (Proc.devRef .tc main_while0b_v65), V (Proc.devRef .tc main_while0b_v68)) := by
  refine Prod.ext ?_ (Prod.ext ?_ (Prod.ext ?_ ?_)) <;> after_reads_simp <;> rfl

/-! ### The second loop -/

/-- The second loop's body, piece by piece: the step's row of input parts … -/
theorem row1 (V : Valuation τ sig (Elt F)) : after bodyOps1_0 V (Proc.devRef .tc main_while1b_v36)
    = gateRow (V (Proc.devRef .tc main_v27_0)) (V (Proc.devRef .tc main_v27_2)) := by
  after_results_entrywise []

/-- … the new cell state … -/
theorem cell1 (V : Valuation τ sig (Elt F)) : after bodyOps1_1 V (Proc.devRef .tc main_while1b_v65)
    = newC (gates (V (Proc.devRef .tc main_while1b_v36)) (V (Proc.devRef .tc main_v27_1)) (V (Proc.devRef .tc main_v27_3)))
        (V (Proc.devRef .tc main_v27_4)) := by
  after_reads_simp
  rfl

/-- … the new hidden state … -/
theorem hid1 (V : Valuation τ sig (Elt F)) : after bodyOps1_1 V (Proc.devRef .tc main_while1b_v67)
    = newH (gates (V (Proc.devRef .tc main_while1b_v36)) (V (Proc.devRef .tc main_v27_1)) (V (Proc.devRef .tc main_v27_3)))
        (newC (gates (V (Proc.devRef .tc main_while1b_v36)) (V (Proc.devRef .tc main_v27_1)) (V (Proc.devRef .tc main_v27_3)))
          (V (Proc.devRef .tc main_v27_4))) := by
  after_reads_simp
  rfl

/-- … the array of hidden states with the new one in its row … -/
theorem all1 (V : Valuation τ sig (Elt F)) : after bodyOps1_2 V (Proc.devRef .tc main_while1b_v68)
    = putRow (V (Proc.devRef .tc main_v27_5)) (V (Proc.devRef .tc main_while1b_v67)) (V (Proc.devRef .tc main_v27_2)) := by
  after_results_entrywise []

/-- … and what is carried to the next step. -/
theorem carried1 (V : Valuation τ sig (Elt F)) : carry1 (after bodyOps1_3 V)
    = (addi (V (Proc.devRef .tc main_v27_2)) (constantI S_ 32 1#32), V (Proc.devRef .tc main_while1b_v67),
        V (Proc.devRef .tc main_while1b_v65), V (Proc.devRef .tc main_while1b_v68)) := by
  refine Prod.ext ?_ (Prod.ext ?_ (Prod.ext ?_ ?_)) <;> after_reads_simp <;> rfl

/-! ## The loops -/

/-- Every reference that the first loop writes. -/
abbrev loop0W : List (Ref sig .tc) := condOps0W ++ bodyOps0_0W ++ bodyOps0_1W ++ bodyOps0_2W ++ bodyOps0_3W

/-- Every reference that the second loop writes. -/
abbrev loop1W : List (Ref sig .tc) := condOps1W ++ bodyOps1_0W ++ bodyOps1_1W ++ bodyOps1_2W ++ bodyOps1_3W

/-- The counter after `k` trips. -/
theorem trips_counter (pre : Arr F S80x8192x400) (w : Arr F S400x100) (k : ℕ) :
    (trips pre w k).1 = fun _ => Scf.iv 0#32 1#32 k := by
  induction k with
  | zero => rw [Scf.iv_zero]; rfl
  | succ k ih =>
    show addi (trips pre w k).1 (constantI S_ 32 1#32) = _
    rw [ih, Scf.iv_succ]
    rfl

/-- A turn of the first loop leaves what the loop does not write. -/
theorem turn0_keep {r : Ref sig .tc} (hr : r ∉ loop0W) (V : Valuation τ sig (Elt F)) :
    afterL body0 (after condOps0 V) (Proc.devRef .tc r) = V (Proc.devRef .tc r) := by
  simp only [List.mem_append, not_or] at hr
  obtain ⟨⟨⟨⟨h, h0⟩, h1⟩, h2⟩, h3⟩ := hr
  simp only [afterL_cons, afterL_nil]
  rw [bodyOps0_3_keep h3, bodyOps0_2_keep h2, bodyOps0_1_keep h1, bodyOps0_0_keep h0, condOps0_keep h]

/-- A turn of the first loop on what it carries is one trip. -/
theorem turn0 (V : Valuation τ sig (Elt F)) : carry0 (afterL body0 (after condOps0 V))
    = trip (V (Proc.devRef .tc main_v16_0)) (V (Proc.devRef .tc main_v16_1)) (carry0 V) := by
  simp only [afterL_cons, afterL_nil]
  rw [carried0, all0, bodyOps0_2_keep (r := main_v16_2) (by decide), bodyOps0_2_keep (r := main_while0b_v67) (by decide),
    bodyOps0_2_keep (r := main_while0b_v65) (by decide), hid0, cell0, bodyOps0_1_keep (r := main_v16_2) (by decide),
    bodyOps0_1_keep (r := main_v16_5) (by decide), row0, bodyOps0_0_keep (r := main_v16_1) (by decide),
    bodyOps0_0_keep (r := main_v16_2) (by decide), bodyOps0_0_keep (r := main_v16_3) (by decide),
    bodyOps0_0_keep (r := main_v16_4) (by decide), bodyOps0_0_keep (r := main_v16_5) (by decide),
    condOps0_keep (r := main_v16_0) (by decide), condOps0_keep (r := main_v16_1) (by decide),
    condOps0_keep (r := main_v16_2) (by decide), condOps0_keep (r := main_v16_3) (by decide),
    condOps0_keep (r := main_v16_4) (by decide), condOps0_keep (r := main_v16_5) (by decide)]
  rfl

/-- Any number of turns of the first loop leaves what the loop does not write. -/
theorem at0_keep {r : Ref sig .tc} (hr : r ∉ loop0W) (W : Dev nD → Valuation τ sig (Elt F)) (c : Dev nD) (k : ℕ) :
    atTrip condOps0 body0 W k c (Proc.devRef .tc r) = W c (Proc.devRef .tc r) := by
  induction k with
  | zero => rfl
  | succ k ih => rw [atTrip_succ, turn0_keep hr, ih]

/-- What the first loop carries after `k` turns from its start. -/
theorem at0 (W : Dev nD → Valuation τ sig (Elt F)) (c : Dev nD) (hs : carry0 (W c) = start) (k : ℕ) :
    carry0 (atTrip condOps0 body0 W k c)
      = trips (W c (Proc.devRef .tc main_v16_0)) (W c (Proc.devRef .tc main_v16_1)) k := by
  induction k with
  | zero => exact hs
  | succ k ih =>
    rw [atTrip_succ, turn0, ih, at0_keep (r := main_v16_0) (by decide), at0_keep (r := main_v16_1) (by decide)]
    rfl

/-- All the hidden states that the first loop has written after `k` turns. -/
theorem at0_all (W : Dev nD → Valuation τ sig (Elt F)) (c : Dev nD) (hs : carry0 (W c) = start) (k : ℕ) :
    atTrip condOps0 body0 W k c (Proc.devRef .tc main_v16_5)
      = (trips (W c (Proc.devRef .tc main_v16_0)) (W c (Proc.devRef .tc main_v16_1)) k).2.2.2 :=
  congrArg (fun s : Carry F => s.2.2.2) (at0 W c hs k)

-- a rule stated for any thread is applied at the core's thread, whose type has to be unfolded to be recognised
set_option backward.isDefEq.respectTransparency.types false in
/-- The condition of the first loop holds exactly at the first 80 turns. -/
theorem cond0_spec (W : Dev nD → Valuation τ sig (Elt F)) (hs : ∀ c, carry0 (W c) = start) :
    CondSpec (pcfgs (F := F)) defs₀ loops main_while0_cond condOps0 body0 W 80 := by
  intro k hk c bd
  have hctr : atTrip condOps0 body0 W k c (Proc.devRef .tc main_v16_2) = fun _ => Scf.iv 0#32 1#32 k :=
    (congrArg (fun s : Carry F => s.1) (at0 W c (hs c) k)).trans (trips_counter _ _ k)
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 body0 W k c) main_v16_2 HostLoop.idx0)
        (HloOp.result _ (atTrip condOps0 body0 W k c) main_while0c_c_13 HostLoop.idx0) = 1#1) (k < 80)
    rw [nullary_result_ne _ _ _ _ (by decide), nullary_result, hctr]
    exact Scf.cmpi_slt_iv_ub_iff (lb := 0#32) (ub := 80#32) (st := 1#32) (by decide) (show k ≤ Scf.trips 0#32 80#32 1#32 from hk)
  isplitl [Hb]; · iexact Hb
  rw [after_cons, after_cons, after_nil]; iexact Hh

/-- A turn of the second loop leaves what the loop does not write. -/
theorem turn1_keep {r : Ref sig .tc} (hr : r ∉ loop1W) (V : Valuation τ sig (Elt F)) :
    afterL body1 (after condOps1 V) (Proc.devRef .tc r) = V (Proc.devRef .tc r) := by
  simp only [List.mem_append, not_or] at hr
  obtain ⟨⟨⟨⟨h, h0⟩, h1⟩, h2⟩, h3⟩ := hr
  simp only [afterL_cons, afterL_nil]
  rw [bodyOps1_3_keep h3, bodyOps1_2_keep h2, bodyOps1_1_keep h1, bodyOps1_0_keep h0, condOps1_keep h]

/-- A turn of the second loop on what it carries is one trip. -/
theorem turn1 (V : Valuation τ sig (Elt F)) : carry1 (afterL body1 (after condOps1 V))
    = trip (V (Proc.devRef .tc main_v27_0)) (V (Proc.devRef .tc main_v27_1)) (carry1 V) := by
  simp only [afterL_cons, afterL_nil]
  rw [carried1, all1, bodyOps1_2_keep (r := main_v27_2) (by decide), bodyOps1_2_keep (r := main_while1b_v67) (by decide),
    bodyOps1_2_keep (r := main_while1b_v65) (by decide), hid1, cell1, bodyOps1_1_keep (r := main_v27_2) (by decide),
    bodyOps1_1_keep (r := main_v27_5) (by decide), row1, bodyOps1_0_keep (r := main_v27_1) (by decide),
    bodyOps1_0_keep (r := main_v27_2) (by decide), bodyOps1_0_keep (r := main_v27_3) (by decide),
    bodyOps1_0_keep (r := main_v27_4) (by decide), bodyOps1_0_keep (r := main_v27_5) (by decide),
    condOps1_keep (r := main_v27_0) (by decide), condOps1_keep (r := main_v27_1) (by decide),
    condOps1_keep (r := main_v27_2) (by decide), condOps1_keep (r := main_v27_3) (by decide),
    condOps1_keep (r := main_v27_4) (by decide), condOps1_keep (r := main_v27_5) (by decide)]
  rfl

/-- Any number of turns of the second loop leaves what the loop does not write. -/
theorem at1_keep {r : Ref sig .tc} (hr : r ∉ loop1W) (W : Dev nD → Valuation τ sig (Elt F)) (c : Dev nD) (k : ℕ) :
    atTrip condOps1 body1 W k c (Proc.devRef .tc r) = W c (Proc.devRef .tc r) := by
  induction k with
  | zero => rfl
  | succ k ih => rw [atTrip_succ, turn1_keep hr, ih]

/-- What the second loop carries after `k` turns from its start. -/
theorem at1 (W : Dev nD → Valuation τ sig (Elt F)) (c : Dev nD) (hs : carry1 (W c) = start) (k : ℕ) :
    carry1 (atTrip condOps1 body1 W k c)
      = trips (W c (Proc.devRef .tc main_v27_0)) (W c (Proc.devRef .tc main_v27_1)) k := by
  induction k with
  | zero => exact hs
  | succ k ih =>
    rw [atTrip_succ, turn1, ih, at1_keep (r := main_v27_0) (by decide), at1_keep (r := main_v27_1) (by decide)]
    rfl

/-- All the hidden states that the second loop has written after `k` turns. -/
theorem at1_all (W : Dev nD → Valuation τ sig (Elt F)) (c : Dev nD) (hs : carry1 (W c) = start) (k : ℕ) :
    atTrip condOps1 body1 W k c (Proc.devRef .tc main_v27_5)
      = (trips (W c (Proc.devRef .tc main_v27_0)) (W c (Proc.devRef .tc main_v27_1)) k).2.2.2 :=
  congrArg (fun s : Carry F => s.2.2.2) (at1 W c hs k)

-- a rule stated for any thread is applied at the core's thread, whose type has to be unfolded to be recognised
set_option backward.isDefEq.respectTransparency.types false in
/-- The condition of the second loop holds exactly at the first 80 turns. -/
theorem cond1_spec (W : Dev nD → Valuation τ sig (Elt F)) (hs : ∀ c, carry1 (W c) = start) :
    CondSpec (pcfgs (F := F)) defs₀ loops main_while1_cond condOps1 body1 W 80 := by
  intro k hk c bd
  have hctr : atTrip condOps1 body1 W k c (Proc.devRef .tc main_v27_2) = fun _ => Scf.iv 0#32 1#32 k :=
    (congrArg (fun s : Carry F => s.1) (at1 W c (hs c) k)).trans (trips_counter _ _ k)
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 body1 W k c) main_v27_2 HostLoop.idx0)
        (HloOp.result _ (atTrip condOps1 body1 W k c) main_while1c_c_13 HostLoop.idx0) = 1#1) (k < 80)
    rw [nullary_result_ne _ _ _ _ (by decide), nullary_result, hctr]
    exact Scf.cmpi_slt_iv_ub_iff (lb := 0#32) (ub := 80#32) (st := 1#32) (by decide) (show k ≤ Scf.trips 0#32 80#32 1#32 from hk)
  isplitl [Hb]; · iexact Hb
  rw [after_cons, after_cons, after_nil]; iexact Hh

/-! ## The stretches of the main function -/

/-- Before the first loop: the carried values are the starting ones … -/
theorem entry0 (V : Valuation τ sig (Elt F)) : carry0 (after mainOps0 V) = start := by
  refine Prod.ext ?_ (Prod.ext ?_ (Prod.ext ?_ ?_)) <;> after_reads_simp <;> rfl

/-- … the input parts of layer 1 are computed … -/
theorem entry0_pre (V : Valuation τ sig (Elt F)) : after mainOps0 V (Proc.devRef .tc main_v16_0)
    = pre1 (V (Proc.devRef .tc main_arg0)) (V (Proc.devRef .tc main_arg1)) (V (Proc.devRef .tc main_arg2))
        (V (Proc.devRef .tc main_arg4)) (V (Proc.devRef .tc main_arg5)) := by
  after_reads_simp
  rfl

/-- … and the recurrent weights are the argument's. -/
theorem entry0_w (V : Valuation τ sig (Elt F)) :
    after mainOps0 V (Proc.devRef .tc main_v16_1) = V (Proc.devRef .tc main_arg3) := by
  after_reads_simp
  rfl

/-- Before the second loop: the carried values are the starting ones … -/
theorem entry1 (V : Valuation τ sig (Elt F)) : carry1 (after mainOps1 V) = start := by
  refine Prod.ext ?_ (Prod.ext ?_ (Prod.ext ?_ ?_)) <;> after_reads_simp <;> rfl

/-- … the input parts of layer 2 are computed from layer 1's hidden states … -/
theorem entry1_pre (V : Valuation τ sig (Elt F)) : after mainOps1 V (Proc.devRef .tc main_v27_0)
    = pre2 (V (Proc.devRef .tc main_v16_5)) (V (Proc.devRef .tc main_arg6)) (V (Proc.devRef .tc main_arg8))
        (V (Proc.devRef .tc main_arg9)) := by
  after_reads_simp
  rfl

/-- … and the recurrent weights are the argument's. -/
theorem entry1_w (V : Valuation τ sig (Elt F)) :
    after mainOps1 V (Proc.devRef .tc main_v27_1) = V (Proc.devRef .tc main_arg7) := by
  after_reads_simp
  rfl

/-- After the second loop: the result is the last linear map of the last hidden state. -/
theorem last (V : Valuation τ sig (Elt F)) : after mainOps2 V (Proc.devRef .tc main_v35)
    = logits (V (Proc.devRef .tc main_v27_5)) (V (Proc.devRef .tc main_arg10)) (V (Proc.devRef .tc main_arg11)) := by
  after_reads_simp
  rfl

/-! ## The run -/

/-- What the reference computes from its twelve arguments. -/
def result (x : (⟨S8192x80, .i32⟩ : BufTy).Contents (Elt F)) (emb : Arr F S100x8) (wih0 : Arr F S400x8)
    (whh0 : Arr F S400x100) (b0 b0' : Arr F S400) (wih1 whh1 : Arr F S400x100) (b1 b1' : Arr F S400)
    (fcw : Arr F S100x100) (fcb : Arr F S100) : Arr F S8192x100 :=
  logits (trips (pre2 (trips (pre1 x emb wih0 b0 b0') whh0 80).2.2.2 wih1 b1 b1') whh1 80).2.2.2 fcw fcb

section

variable (m : (ℓ : Loc nD τ sig) → Buf (Elt F) ℓ) (c : Dev nD)

/-- The buffers at the first loop's entry. -/
abbrev in0 : Dev nD → Valuation τ sig (Elt F) := fun c => after mainOps0 (launchContents m c)

/-- The buffers at the second loop's entry. -/
abbrev in1 : Dev nD → Valuation τ sig (Elt F) := fun c => after mainOps1 (loop0.exit (in0 m) c)

/-- The buffers at the end. -/
abbrev out : Dev nD → Valuation τ sig (Elt F) := fun c => after mainOps2 (loop1.exit (in1 m) c)

/-- A reference that nothing before the second stretch writes still holds what it held at the start. -/
theorem exit0_keep {r : Ref sig .tc} (h0 : r ∉ mainOps0W) (h1 : r ∉ loop0W) :
    loop0.exit (in0 m) c (Proc.devRef .tc r) = m ((c : Thread nD τ).loc r) := by
  unfold Loop.exit
  show after condOps0 (atTrip condOps0 body0 (in0 m) 80 c) _ = _
  rw [condOps0_keep (fun h => h1 (by simp only [List.mem_append]; tauto)), at0_keep h1]
  exact mainOps0_keep h0 _

/-- A reference that nothing before the last stretch writes still holds what it held at the start. -/
theorem exit1_keep {r : Ref sig .tc} (h0 : r ∉ mainOps0W) (h1 : r ∉ loop0W) (h2 : r ∉ mainOps1W) (h3 : r ∉ loop1W) :
    loop1.exit (in1 m) c (Proc.devRef .tc r) = m ((c : Thread nD τ).loc r) := by
  unfold Loop.exit
  show after condOps1 (atTrip condOps1 body1 (in1 m) 80 c) _ = _
  rw [condOps1_keep (fun h => h3 (by simp only [List.mem_append]; tauto)), at1_keep h3]
  exact (mainOps1_keep h2 _).trans (exit0_keep m c h0 h1)

/-- A reference that nothing writes still holds at the end what it held at the start. -/
theorem out_keep {r : Ref sig .tc} (h0 : r ∉ mainOps0W) (h1 : r ∉ loop0W) (h2 : r ∉ mainOps1W) (h3 : r ∉ loop1W)
    (h4 : r ∉ mainOps2W) : out m c (Proc.devRef .tc r) = m ((c : Thread nD τ).loc r) := by
  show after mainOps2 _ _ = _
  rw [mainOps2_keep h4, exit1_keep m c h0 h1 h2 h3]

/-- What an argument of the program holds when it starts. -/
abbrev arg (r : Ref sig .tc) : r.ty.Contents (Elt F) := m ((c : Thread nD τ).loc r)

/-- All hidden states of the first layer. -/
theorem exit0_all : loop0.exit (in0 m) c (Proc.devRef .tc main_v16_5)
    = (trips (pre1 (arg m c main_arg0) (arg m c main_arg1) (arg m c main_arg2) (arg m c main_arg4) (arg m c main_arg5))
        (arg m c main_arg3) 80).2.2.2 := by
  unfold Loop.exit
  show after condOps0 (atTrip condOps0 body0 (in0 m) 80 c) _ = _
  rw [condOps0_keep (r := main_v16_5) (by decide)]
  rw [at0_all (in0 m) c (entry0 _)]
  show (trips (after mainOps0 _ (Proc.devRef .tc main_v16_0)) (after mainOps0 _ (Proc.devRef .tc main_v16_1)) 80).2.2.2 = _
  rw [entry0_pre, entry0_w]

/-- All hidden states of the second layer. -/
theorem exit1_all : loop1.exit (in1 m) c (Proc.devRef .tc main_v27_5)
    = (trips (pre2 (trips (pre1 (arg m c main_arg0) (arg m c main_arg1) (arg m c main_arg2) (arg m c main_arg4) (arg m c main_arg5))
        (arg m c main_arg3) 80).2.2.2 (arg m c main_arg6) (arg m c main_arg8) (arg m c main_arg9)) (arg m c main_arg7) 80).2.2.2 := by
  unfold Loop.exit
  show after condOps1 (atTrip condOps1 body1 (in1 m) 80 c) _ = _
  rw [condOps1_keep (r := main_v27_5) (by decide)]
  rw [at1_all (in1 m) c (entry1 _)]
  show (trips (after mainOps1 _ (Proc.devRef .tc main_v27_0)) (after mainOps1 _ (Proc.devRef .tc main_v27_1)) 80).2.2.2 = _
  rw [entry1_pre, entry1_w, exit0_all, exit0_keep m c (r := main_arg6) (by decide) (by decide),
    exit0_keep m c (r := main_arg7) (by decide) (by decide), exit0_keep m c (r := main_arg8) (by decide) (by decide),
    exit0_keep m c (r := main_arg9) (by decide) (by decide)]

/-- The result buffer at the end. -/
theorem out_result : out m c (Proc.devRef .tc main_v35)
    = result (arg m c main_arg0) (arg m c main_arg1) (arg m c main_arg2) (arg m c main_arg3) (arg m c main_arg4)
        (arg m c main_arg5) (arg m c main_arg6) (arg m c main_arg7) (arg m c main_arg8) (arg m c main_arg9)
        (arg m c main_arg10) (arg m c main_arg11) := by
  show after mainOps2 _ _ = _
  rw [last, exit1_all, exit1_keep m c (r := main_arg10) (by decide) (by decide) (by decide) (by decide),
    exit1_keep m c (r := main_arg11) (by decide) (by decide) (by decide) (by decide)]
  rfl

end

/-- Every run of the reference ends with each buffer at the fold of its operations. -/
theorem run [∀ e, Nonempty (Elt F e)] (m : (ℓ : Loc nD τ sig) → Buf (Elt F) ℓ) (ρ : Dev nD → PrngReg) :
    θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = out m c (Proc.devRef .tc b)) :=
  run_two_loops pcfgs defs₀ loops main loop0 loop1 mainOps0 mainOps1 mainOps2 (.cons mainOps0_sub .nil)
    (.cons mainOps1_sub .nil) (.cons mainOps2_sub .nil) main_chain m ρ
    (cond0_spec _ fun c => entry0 _) (cond1_spec _ fun c => entry1 _)

/-- An argument of the program is unchanged at the end of a run. -/
theorem arg_kept {m : (ℓ : Loc nD τ sig) → Buf (Elt F) ℓ} {s : MemSt nD τ sig (Elt F)} {c : Dev nD}
    (h : ∀ b : Ref sig .tc, (Proc.devRef .tc b : DevRef τ sig).isScoped = false →
      s.mem ((c.tc : Thread nD τ).loc b) = out m c (Proc.devRef .tc b)) (r : Ref sig .tc)
    (h0 : r ∉ mainOps0W) (h1 : r ∉ loop0W) (h2 : r ∉ mainOps1W) (h3 : r ∉ loop1W) (h4 : r ∉ mainOps2W)
    (hs : (Proc.devRef .tc r : DevRef τ sig).isScoped = false) :
    s.mem ((c.tc : Thread nD τ).loc r) = m ((c.tc : Thread nD τ).loc r) :=
  (h r hs).trans (out_keep m c h0 h1 h2 h3 h4)

/-- Every run of the reference ends with its result buffer at `result` of the arguments and the arguments unchanged. -/
theorem run_result [∀ e, Nonempty (Elt F e)] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v35) = result (arg m c main_arg0) (arg m c main_arg1) (arg m c main_arg2)
        (arg m c main_arg3) (arg m c main_arg4) (arg m c main_arg5) (arg m c main_arg6) (arg m c main_arg7)
        (arg m c main_arg8) (arg m c main_arg9) (arg m c main_arg10) (arg m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c main_v35 rfl).trans (out_result m c),
      arg_kept (h c) main_arg0 (by decide) (by decide) (by decide) (by decide) (by decide) rfl,
      arg_kept (h c) main_arg1 (by decide) (by decide) (by decide) (by decide) (by decide) rfl,
      arg_kept (h c) main_arg2 (by decide) (by decide) (by decide) (by decide) (by decide) rfl,
      arg_kept (h c) main_arg3 (by decide) (by decide) (by decide) (by decide) (by decide) rfl,
      arg_kept (h c) main_arg4 (by decide) (by decide) (by decide) (by decide) (by decide) rfl,
      arg_kept (h c) main_arg5 (by decide) (by decide) (by decide) (by decide) (by decide) rfl,
      arg_kept (h c) main_arg6 (by decide) (by decide) (by decide) (by decide) (by decide) rfl,
      arg_kept (h c) main_arg7 (by decide) (by decide) (by decide) (by decide) (by decide) rfl,
      arg_kept (h c) main_arg8 (by decide) (by decide) (by decide) (by decide) (by decide) rfl,
      arg_kept (h c) main_arg9 (by decide) (by decide) (by decide) (by decide) (by decide) rfl,
      arg_kept (h c) main_arg10 (by decide) (by decide) (by decide) (by decide) (by decide) rfl,
      arg_kept (h c) main_arg11 (by decide) (by decide) (by decide) (by decide) (by decide) rfl⟩)
    (run m ρ)

/-- Every run of the reference ends with the arguments unchanged and no counter raised. -/
theorem frame [∀ e, Nonempty (Elt F e)] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => (h c).2, sem_eq_zero_of_no_sems rfl _⟩) (run_result m ρ)

end Cert.ReferenceIdeal.Lstm

end
-- ==== Proof.Spec.lean ====
/-
  The mathematics of the two-layer LSTM on the extended reals, for one batch row: the cell, the recursion of one layer over
  the time steps, and the scalar equations that let the kernel compute with scaled quantities (the logistic function from a
  hyperbolic tangent at half the argument, a positive factor moved through a sum).
-/
module

public import Idealize.ShloMosaic.PureOps.Ideal
public import Mathlib.Analysis.SpecialFunctions.Trigonometric.DerivHyp

@[expose] public section

noncomputable section

namespace Cert.Spec

open Idealize.ShloMosaic

/-- One half. -/
def half : EReal := ((1 / 2 : ℝ) : EReal)

/-- The logistic function. -/
def sig (x : EReal) : EReal := Ideal.div 1 (1 + Ideal.exp (-x))

/-- What a layer carries for one batch row: the hidden state and the cell state. -/
abbrev St : Type := (Fin 100 → EReal) × (Fin 100 → EReal)

/-- The gates' arguments: the input's part plus the recurrent weights applied to the hidden state. -/
def gate (inp : Fin 400 → EReal) (W : Fin 400 → Fin 100 → EReal) (h : Fin 100 → EReal) (r : Fin 400) : EReal :=
  inp r + ∑ k, h k * W r k

/-- Gate `q` of unit `j` (the gates are stacked: input, forget, cell, output). -/
def row (q : Fin 4) (j : Fin 100) : Fin 400 := ⟨q.val * 100 + j.val, by omega⟩

/-- The new cell state. -/
def cell (g : Fin 400 → EReal) (c : Fin 100 → EReal) (j : Fin 100) : EReal :=
  sig (g (row 1 j)) * c j + sig (g (row 0 j)) * Ideal.tanh (g (row 2 j))

/-- The new hidden state. -/
def hid (g : Fin 400 → EReal) (c : Fin 100 → EReal) (j : Fin 100) : EReal :=
  sig (g (row 3 j)) * Ideal.tanh (c j)

/-- One time step of a layer. -/
def step (inp : Fin 400 → EReal) (W : Fin 400 → Fin 100 → EReal) (s : St) : St :=
  let g := gate inp W s.1
  let c := cell g s.2
  (hid g c, c)

/-- A layer's state after `n` time steps, from zero. -/
def run (inp : ℕ → Fin 400 → EReal) (W : Fin 400 → Fin 100 → EReal) : ℕ → St
  | 0 => (fun _ => 0, fun _ => 0)
  | n + 1 => step (inp n) W (run inp W n)

/-- The input's part of a layer's gates: the weights applied to the input, plus the two biases. -/
def lin {n : ℕ} (x : Fin n → EReal) (W : Fin 400 → Fin n → EReal) (b b' : Fin 400 → EReal) (r : Fin 400) : EReal :=
  (∑ k, x k * W r k) + (b r + b' r)

/-- Layer 1 after `n` steps on the inputs `x`. -/
def layer1 (x : ℕ → Fin 8 → EReal) (Wi : Fin 400 → Fin 8 → EReal) (Wh : Fin 400 → Fin 100 → EReal)
    (b b' : Fin 400 → EReal) : ℕ → St :=
  run (fun t => lin (x t) Wi b b') Wh

/-- Layer 2 after `n` steps, its input at step `t` the first layer's hidden state after step `t`. -/
def layer2 (s1 : ℕ → St) (Wi Wh : Fin 400 → Fin 100 → EReal) (b b' : Fin 400 → EReal) : ℕ → St :=
  run (fun t => lin (s1 (t + 1)).1 Wi b b') Wh

/-- The last linear map. -/
def readout (h : Fin 100 → EReal) (W : Fin 100 → Fin 100 → EReal) (b : Fin 100 → EReal) (v : Fin 100) : EReal :=
  (∑ k, h k * W v k) + b v

/-! ## Scalars -/

/-- One half of two is one. -/
theorem half_mul_two : half * 2 = 1 := by
  have : (2 : EReal) = ((2 : ℝ) : EReal) := rfl
  rw [half, this, ← EReal.coe_mul]; norm_num

/-- A nonnegative real factor distributes over a sum. -/
theorem mul_add_of_real {r : ℝ} (hr : 0 ≤ r) (x y : EReal) : (r : EReal) * (x + y) = r * x + r * y :=
  EReal.left_distrib_of_nonneg_of_ne_top (by exact_mod_cast hr) (EReal.coe_ne_top r) x y

/-- A half distributes over a sum. -/
theorem half_mul_add (x y : EReal) : half * (x + y) = half * x + half * y :=
  mul_add_of_real (by norm_num) x y

/-- A nonnegative real factor distributes over a finite sum. -/
theorem mul_sum_of_nonneg {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_of_real hr, ih]

/-- The logistic function is half of one plus the hyperbolic tangent at half the argument: on all extended reals. -/
theorem half_one_add_tanh (x : EReal) : half * (1 + Ideal.tanh (half * x)) = sig x := by
  induction x using EReal.rec with
  | bot =>
    have h : half * ⊥ = ⊥ := EReal.coe_mul_bot_of_pos (by norm_num)
    rw [h, sig, Ideal.tanh_bot, EReal.neg_bot, Ideal.exp_top]
    have h1 : (1 : EReal) + ⊤ = ⊤ := rfl
    have h2 : (1 : EReal) + -1 = 0 := by
      have : ((1 : ℝ) : EReal) + ((-1 : ℝ) : EReal) = ((0 : ℝ) : EReal) := by rw [← EReal.coe_add]; norm_num
      exact this
    rw [h1, h2, mul_zero]
    simp [Ideal.div]
  | top =>
    have h : half * ⊤ = ⊤ := EReal.coe_mul_top_of_pos (by norm_num)
    rw [h, sig, Ideal.tanh_top, EReal.neg_top, Ideal.exp_bot, add_zero]
    have h2 : (1 : EReal) + 1 = 2 := one_add_one_eq_two
    rw [h2, half_mul_two]
    simp [Ideal.div]
  | coe r =>
    have hpos : 0 < 1 + Real.exp (-r) := by positivity
    rw [sig, half, ← EReal.coe_mul, Ideal.tanh_coe, ← EReal.coe_neg, Ideal.exp_coe]
    have e1 : (1 : EReal) + ((Real.exp (-r) : ℝ) : EReal) = ((1 + Real.exp (-r) : ℝ) : EReal) := by
      rw [EReal.coe_add]; rfl
    have e2 : (1 : EReal) + ((Real.tanh (1 / 2 * r) : ℝ) : EReal) = ((1 + Real.tanh (1 / 2 * r) : ℝ) : EReal) := by
      rw [EReal.coe_add]; rfl
    rw [e1, e2, Ideal.div, if_neg (by exact_mod_cast hpos.ne'), ← EReal.coe_mul, ← EReal.coe_inv, one_mul]
    congr 1
    have hx : Real.exp (-r) = Real.exp (-(1 / 2 * r)) * Real.exp (-(1 / 2 * r)) := by
      rw [← Real.exp_add]; congr 1; ring
    have hy : Real.exp (1 / 2 * r) * Real.exp (-(1 / 2 * r)) = 1 := by rw [← Real.exp_add]; simp
    have p1 := Real.exp_pos (1 / 2 * r)
    have p2 := Real.exp_pos (-(1 / 2 * r))
    rw [Real.tanh_eq_sinh_div_cosh, Real.sinh_eq, Real.cosh_eq, hx]
    generalize Real.exp (1 / 2 * r) = a at *
    generalize Real.exp (-(1 / 2 * r)) = b at *
    field_simp
    nlinarith [hy]

/-- The kernel's cell state: with the gates' tangents at half arguments, half of the unhalved sum. -/
theorem cell_eq (f i g c : EReal) :
    half * ((1 + Ideal.tanh (half * f)) * c + (1 + Ideal.tanh (half * i)) * Ideal.tanh g)
      = sig f * c + sig i * Ideal.tanh g := by
  rw [half_mul_add, ← mul_assoc, ← mul_assoc, half_one_add_tanh, half_one_add_tanh]

/-- The kernel's hidden state is twice the layer's. -/
theorem hid_eq (o c : EReal) : (1 + Ideal.tanh (half * o)) * Ideal.tanh c = 2 * (sig o * Ideal.tanh c) := by
  rw [← half_one_add_tanh, ← mul_assoc, ← mul_assoc, mul_comm 2 half, half_mul_two, one_mul]

/-- A halved weight times a doubled value, under a common factor: the factor times the product. -/
theorem weight_eq (s w h : EReal) : half * (w * s) * (2 * h) = s * (h * w) := by
  rw [mul_comm half, mul_assoc, ← mul_assoc half, half_mul_two, one_mul, mul_comm w s, mul_assoc, mul_comm w h]

end Cert.Spec

end
-- ==== Proof.RefValue.lean ====
/-
  What the reference computes, entry by entry over the extended reals: each array operation read at an index, then the two
  loops by induction over the time steps, then the result as the read-out of the second layer's last hidden state.
-/
module

public import proofs.«01_k».proof.Proof.RefRun
public import proofs.«01_k».proof.Proof.Spec
public import Idealize.ShloMosaic.Lib.Pointwise
public import Idealize.ShloMosaic.Lib.Routing.OpsPair

@[expose] public section

noncomputable section

namespace Cert.ReferenceIdeal.Lstm

open Idealize.ShloMosaic Idealize.SL.Sem
open Cert.ReferenceIdeal Cert.ReferenceIdeal.Facts₀

/-- The logistic function, entry by entry. -/
theorem sig1_at (x : Arr Ideal S8192x100) (n : Fin 8192) (j : Fin 100) : sig1 x (ix2 n j) = Spec.sig (x (ix2 n j)) := by
  pointwise [sig1, ones]
  rfl

/-- The gates at a batch row and a gate row. -/
theorem gates_at (x : Arr Ideal S8192x400) (w : Arr Ideal S400x100) (h : Arr Ideal S8192x100) (n : Fin 8192) (r : Fin 400) :
    gates x w h (ix2 n r) = Spec.gate (fun r => x (ix2 n r)) (fun r k => w (ix2 r k)) (fun k => h (ix2 n k)) r := by
  pointwise [gates, Spec.gate]

/-- The new cell state at a batch row and a unit. -/
theorem newC_at (g : Arr Ideal S8192x400) (c : Arr Ideal S8192x100) (n : Fin 8192) (j : Fin 100) :
    newC g c (ix2 n j) = Spec.cell (fun r => g (ix2 n r)) (fun k => c (ix2 n k)) j := by
  have e0 : (⟨j.val, by omega⟩ : Fin 400) = Spec.row 0 j := Fin.ext (Nat.zero_add _).symm
  pointwise [newC, Spec.cell, sig1_at]
  rw [e0]
  rfl

/-- The new hidden state at a batch row and a unit. -/
theorem newH_at (g : Arr Ideal S8192x400) (c : Arr Ideal S8192x100) (n : Fin 8192) (j : Fin 100) :
    newH g c (ix2 n j) = Spec.hid (fun r => g (ix2 n r)) (fun k => c (ix2 n k)) j := by
  pointwise [newH, Spec.hid, sig1_at]
  rfl

/-- The first coordinate of the row that a counter names. -/
theorem rowAt_zero {k : Ctr Ideal} {t : ℕ} (ht : t < 80) (hk : k = fun _ => Scf.iv 0#32 1#32 t) : rowAt k 0 = t := by
  subst hk
  show (Scf.iv 0#32 1#32 t).toInt = t
  have e : Scf.iv 0#32 1#32 t = BitVec.ofNat 32 t := by simp [Scf.iv]
  rw [e, BitVec.toInt_eq_toNat_of_lt (by rw [BitVec.toNat_ofNat]; omega), BitVec.toNat_ofNat]
  omega

/-- The precomputed row of the step that the counter names. -/
theorem gateRow_at (pre : Arr Ideal S80x8192x400) {k : Ctr Ideal} (t : Fin 80) (hk : k = fun _ => Scf.iv 0#32 1#32 t.val)
    (n : Fin 8192) (r : Fin 400) : gateRow pre k (ix2 n r) = pre (ix3 t n r) := by
  have h0 : Host.clampedStart S80x8192x400 S1x8192x400 sliceFits_S80x8192x400_S1x8192x400.1 (rowAt k) 0 = t.val :=
    Host.clampedStart_of_le _ _ _ _ (rowAt_zero t.isLt hk) (by show t.val + 1 ≤ 80; omega)
  have h1 : Host.clampedStart S80x8192x400 S1x8192x400 sliceFits_S80x8192x400_S1x8192x400.1 (rowAt k) 1 = 0 :=
    Host.clampedStart_of_le _ _ _ 0 rfl (by decide)
  have h2 : Host.clampedStart S80x8192x400 S1x8192x400 sliceFits_S80x8192x400_S1x8192x400.1 (rowAt k) 2 = 0 :=
    Host.clampedStart_of_le _ _ _ 0 rfl (by decide)
  pointwise [gateRow]
  congr 2
  · exact Fin.ext h0
  · exact Fin.ext (by show _ + _ = _; rw [h1]; omega)
  · exact Fin.ext (by show _ + _ = _; rw [h2]; omega)

/-- The stack of hidden states with one row replaced. -/
theorem putRow_at (hs : Arr Ideal S80x8192x100) (h : Arr Ideal S8192x100) {k : Ctr Ideal} (t : Fin 80)
    (hk : k = fun _ => Scf.iv 0#32 1#32 t.val) (u : Fin 80) (n : Fin 8192) (j : Fin 100) :
    putRow hs h k (ix3 u n j) = if u = t then h (ix2 n j) else hs (ix3 u n j) := by
  have h0 : Host.clampedStart S80x8192x100 S1x8192x100 updateFits_S80x8192x100_S1x8192x100.1 (rowAt k) 0 = t.val :=
    Host.clampedStart_of_le _ _ _ _ (rowAt_zero t.isLt hk) (by show t.val + 1 ≤ 80; omega)
  have h1 : Host.clampedStart S80x8192x100 S1x8192x100 updateFits_S80x8192x100_S1x8192x100.1 (rowAt k) 1 = 0 :=
    Host.clampedStart_of_le _ _ _ 0 rfl (by decide)
  have h2 : Host.clampedStart S80x8192x100 S1x8192x100 updateFits_S80x8192x100_S1x8192x100.1 (rowAt k) 2 = 0 :=
    Host.clampedStart_of_le _ _ _ 0 rfl (by decide)
  rw [putRow, Host.dynamicUpdateSlice_apply]
  by_cases e : u = t
  · subst e
    rw [dif_pos, if_pos rfl]
    · pointwise []
      congr 2
    · intro a
      match a with
      | ⟨0, _⟩ => exact ⟨h0.le, Nat.lt_succ_of_le h0.ge⟩
      | ⟨1, _⟩ => exact ⟨h1.le.trans (Nat.zero_le _), by show n.val < _ + 8192; omega⟩
      | ⟨2, _⟩ => exact ⟨h2.le.trans (Nat.zero_le _), by show j.val < _ + 100; omega⟩
  · rw [dif_neg, if_neg e]
    intro hin
    have := hin 0
    rw [h0] at this
    have h3 : t.val ≤ u.val ∧ u.val < t.val + 1 := this
    exact e (Fin.ext (by omega))

/-- The part of the second layer's gates computed before its loop. -/
theorem pre2_at (hs : Arr Ideal S80x8192x100) (wih : Arr Ideal S400x100) (b b' : Arr Ideal S400) (t : Fin 80)
    (n : Fin 8192) (r : Fin 400) :
    pre2 hs wih b b' (ix3 t n r)
      = Spec.lin (fun k => hs (ix3 t n k)) (fun r k => wih (ix2 r k)) (fun r => b (ix1 r)) (fun r => b' (ix1 r)) r := by
  pointwise [pre2, Spec.lin]

/-- The last linear map at a batch row and a class. -/
theorem logits_at (hs : Arr Ideal S80x8192x100) (w : Arr Ideal S100x100) (b : Arr Ideal S100) (n : Fin 8192) (v : Fin 100) :
    logits hs w b (ix2 n v)
      = Spec.readout (fun k => hs (ix3 79 n k)) (fun r k => w (ix2 r k)) (fun r => b (ix1 r)) v := by
  pointwise [logits, Spec.readout]

/-- The table's row that a token names. -/
theorem gather_at (emb : Arr Ideal S100x8) (idx : IVec S8192x80x1 32) (n : Fin 8192) (t : Fin 80) (e : Fin 8) (v : Fin 100)
    (hv : (idx (ix3 n t 0)).toInt = (v.val : ℤ)) :
    Host.gather gather_S100x8_S8192x80x1_S8192x80x8_2_0_n_n_0_2_18 emb idx (ix3 n t e) = emb (ix2 v e) := by
  unfold Host.gather
  refine congrArg emb (funext fun a => Fin.ext ?_)
  match a with
  | ⟨0, _⟩ =>
    show min (idx _).toInt.toNat (100 - 1) + 0 + 0 = v.val
    have e : ∀ i : S8192x80x1.Idx, i = ix3 n t 0 → min (idx i).toInt.toNat (100 - 1) + 0 + 0 = v.val := by
      rintro i rfl
      rw [hv]
      omega
    refine e _ (funext fun b => Fin.ext ?_)
    match b with
    | ⟨0, _⟩ => rfl
    | ⟨1, _⟩ => rfl
    | ⟨2, _⟩ => rfl
  | ⟨1, _⟩ => show 0 + 0 + e.val = e.val; omega

/-- The part of the first layer's gates computed before its loop, at a token inside the table. -/
theorem pre1_at (x : (⟨S8192x80, .i32⟩ : BufTy).Contents (Elt Ideal)) (emb : Arr Ideal S100x8) (wih : Arr Ideal S400x8)
    (b b' : Arr Ideal S400) (t : Fin 80) (n : Fin 8192) (r : Fin 400) (v : Fin 100)
    (hv : (x (ix2 n t) : BitVec 32) = BitVec.ofNat 32 v.val) :
    pre1 x emb wih b b' (ix3 t n r)
      = Spec.lin (fun e => emb (ix2 v e)) (fun r k => wih (ix2 r k)) (fun r => b (ix1 r)) (fun r => b' (ix1 r)) r := by
  have hi : (x (ix2 n t) : BitVec 32).toInt = (v.val : ℤ) := by
    rw [hv, BitVec.toInt_eq_toNat_of_lt (by rw [BitVec.toNat_ofNat]; omega), BitVec.toNat_ofNat]
    omega
  pointwise [pre1, Spec.lin]
  congr 1
  refine Finset.sum_congr rfl fun e _ => congrArg (· * wih (ix2 r e)) (gather_at emb _ n t e v ?_)
  pointwise []
  rw [Routing.wrap_of_lt _ _ (by rw [hv, BitVec.toNat_ofNat]; omega)]
  exact hi

/-- One trip of a loop at a batch row: one step of the layer. -/
theorem trip_at (pre : Arr Ideal S80x8192x400) (w : Arr Ideal S400x100) (s : Carry Ideal) (t : Fin 80)
    (hk : s.1 = fun _ => Scf.iv 0#32 1#32 t.val) (n : Fin 8192) (inp : Fin 400 → EReal) (hin : ∀ r, inp r = pre (ix3 t n r))
    (q : Spec.St) (hh : ∀ j, s.2.1 (ix2 n j) = q.1 j) (hc : ∀ j, s.2.2.1 (ix2 n j) = q.2 j) (j : Fin 100) :
    (trip pre w s).2.1 (ix2 n j) = (Spec.step inp (fun r k => w (ix2 r k)) q).1 j
      ∧ (trip pre w s).2.2.1 (ix2 n j) = (Spec.step inp (fun r k => w (ix2 r k)) q).2 j := by
  have hg : (fun r => gates (gateRow pre s.1) w s.2.1 (ix2 n r)) = Spec.gate inp (fun r k => w (ix2 r k)) q.1 := by
    funext r
    rw [gates_at, show (fun k => s.2.1 (ix2 n k)) = q.1 from funext hh]
    rw [show (fun r => gateRow pre s.1 (ix2 n r)) = inp from funext fun r => (gateRow_at pre t hk n r).trans (hin r).symm]
  have hC : (fun j => newC (gates (gateRow pre s.1) w s.2.1) s.2.2.1 (ix2 n j))
      = Spec.cell (Spec.gate inp (fun r k => w (ix2 r k)) q.1) q.2 := by
    funext j
    rw [newC_at, hg, show (fun k => s.2.2.1 (ix2 n k)) = q.2 from funext hc]
  refine ⟨?_, congrFun hC j⟩
  refine (newH_at _ _ n j).trans ?_
  rw [hg]
  exact congrArg (fun c => Spec.hid _ c j) hC

/-- The loop at a batch row, after `t` trips: the layer's state after `t` steps, and the stack holds the hidden state after
    each step already made. -/
theorem trips_at (pre : Arr Ideal S80x8192x400) (w : Arr Ideal S400x100) (n : Fin 8192) (inp : ℕ → Fin 400 → EReal)
    (hin : ∀ (t : Fin 80) (r : Fin 400), inp t.val r = pre (ix3 t n r)) (t : ℕ) (ht : t ≤ 80) :
    (∀ j, (trips pre w t).2.1 (ix2 n j) = (Spec.run inp (fun r k => w (ix2 r k)) t).1 j)
      ∧ (∀ j, (trips pre w t).2.2.1 (ix2 n j) = (Spec.run inp (fun r k => w (ix2 r k)) t).2 j)
      ∧ (∀ (u : Fin 80) (j : Fin 100), u.val < t →
          (trips pre w t).2.2.2 (ix3 u n j) = (Spec.run inp (fun r k => w (ix2 r k)) (u.val + 1)).1 j) := by
  induction t with
  | zero =>
    refine ⟨fun j => ?_, fun j => ?_, fun u _ h => absurd h (Nat.not_lt_zero _)⟩
    · show zeros (ix2 n j) = 0
      pointwise [zeros]
    · show zeros (ix2 n j) = 0
      pointwise [zeros]
  | succ t ih =>
    obtain ⟨ih1, ih2, ih3⟩ := ih (by omega)
    have hk : (trips pre w t).1 = fun _ => Scf.iv 0#32 1#32 (⟨t, by omega⟩ : Fin 80).val := trips_counter pre w t
    have st := trip_at pre w (trips pre w t) ⟨t, by omega⟩ hk n (inp t) (fun r => hin ⟨t, by omega⟩ r) _ ih1 ih2
    refine ⟨fun j => (st j).1, fun j => (st j).2, fun u j hu => ?_⟩
    refine (putRow_at (trips pre w t).2.2.2 (trip pre w (trips pre w t)).2.1 ⟨t, by omega⟩ hk u n j).trans ?_
    by_cases e : u = ⟨t, by omega⟩
    · rw [if_pos e, e]
      exact (st j).1
    · rw [if_neg e]
      exact ih3 u j (by have : u.val ≠ t := fun h => e (Fin.ext h); omega)

/-- The reference's result at a batch row and a class, when the tokens of the row are `v`: the read-out of the second layer's
    last hidden state. -/
theorem result_at (x : (⟨S8192x80, .i32⟩ : BufTy).Contents (Elt Ideal)) (emb : Arr Ideal S100x8) (wih0 : Arr Ideal S400x8)
    (whh0 : Arr Ideal S400x100) (b0 b0' : Arr Ideal S400) (wih1 whh1 : Arr Ideal S400x100) (b1 b1' : Arr Ideal S400)
    (fcw : Arr Ideal S100x100) (fcb : Arr Ideal S100) (n : Fin 8192) (c : Fin 100) (v : ℕ → Fin 100)
    (hv : ∀ t : Fin 80, (x (ix2 n t) : BitVec 32) = BitVec.ofNat 32 (v t.val).val) :
    result x emb wih0 whh0 b0 b0' wih1 whh1 b1 b1' fcw fcb (ix2 n c)
      = Spec.readout
          (Spec.layer2
            (Spec.layer1 (fun t e => emb (ix2 (v t) e)) (fun r k => wih0 (ix2 r k)) (fun r k => whh0 (ix2 r k))
              (fun r => b0 (ix1 r)) (fun r => b0' (ix1 r)))
            (fun r k => wih1 (ix2 r k)) (fun r k => whh1 (ix2 r k)) (fun r => b1 (ix1 r)) (fun r => b1' (ix1 r)) 80).1
          (fun r k => fcw (ix2 r k)) (fun r => fcb (ix1 r)) c := by
  have L1 := (trips_at (pre1 x emb wih0 b0 b0') whh0 n
    (fun t => Spec.lin (fun e => emb (ix2 (v t) e)) (fun r k => wih0 (ix2 r k)) (fun r => b0 (ix1 r)) (fun r => b0' (ix1 r)))
    (fun t r => (pre1_at x emb wih0 b0 b0' t n r (v t.val) (hv t)).symm) 80 le_rfl).2.2
  have L2 := (trips_at (pre2 (trips (pre1 x emb wih0 b0 b0') whh0 80).2.2.2 wih1 b1 b1') whh1 n
    (fun t => Spec.lin (Spec.layer1 (fun t e => emb (ix2 (v t) e)) (fun r k => wih0 (ix2 r k)) (fun r k => whh0 (ix2 r k))
        (fun r => b0 (ix1 r)) (fun r => b0' (ix1 r)) (t + 1)).1
      (fun r k => wih1 (ix2 r k)) (fun r => b1 (ix1 r)) (fun r => b1' (ix1 r)))
    (fun t r => ((pre2_at _ wih1 b1 b1' t n r).trans
      (by rw [funext fun k => L1 t k t.isLt]; rfl)).symm) 80 le_rfl).2.2
  rw [result, logits_at]
  rw [funext fun k => L2 79 k (by decide)]
  rfl

end Cert.ReferenceIdeal.Lstm

end
-- ==== Proof.KerStep.lean ====
/-
  What one trip of the kernel's loop computes, in the words of the cell.

  One block holds 1024 batch rows as two halves of 512 columns. A half carries the two layers'
  hidden and cell states; one time step takes it to `stepHalf`. A trip of the loop is sixteen
  time steps of each half, and `trip_eq` says so.
-/
module

public import proofs.«01_k».proof.Proof.Gen.KernelIdeal.Loops
public import Mathlib.Tactic.IntervalCases

@[expose] public section

noncomputable section

namespace Cert.KernelIdeal.Lstm

open Idealize.ShloMosaic Idealize.ShloMosaic.TcCoe
open Cert.KernelIdeal.Gen

variable {F : FTy → Type} [FloatOps F]

/-- A hidden state of a half as it is stored: units (padded to 112) by batch columns. -/
abbrev Hid (F : FTy → Type) : Type := FVec F S112x512 .bf16
/-- A cell state of a half: 13 groups of 8 units, by batch columns. -/
abbrev Cel (F : FTy → Type) : Type := FVec F S13x8x512 .f32
/-- What a half carries: layer 1's hidden and cell state, then layer 2's. -/
abbrev Half (F : FTy → Type) : Type := Hid F × Cel F × Hid F × Cel F

/-- The tokens of a time step, as numbers. -/
def tokNum (x : Vec F S1x1x1024 .i32) : FVec F S1x1024 .bf16 :=
  sitofp .bf16 (shapeCast S1x1024 x shapeCasts_S1x1x1024_S1x1024)

/-- The first half's tokens. -/
def tokA (x : Vec F S1x1x1024 .i32) : FVec F S1x512 .bf16 :=
  extractStridedSlice S1x512 ![0, 0] (tokNum x) slices_S1x1024_o0_0_S1x512

/-- The second half's tokens. -/
def tokB (x : Vec F S1x1x1024 .i32) : FVec F S1x512 .bf16 :=
  extractStridedSlice S1x512 ![0, 512] (tokNum x) slices_S1x1024_o0_512_S1x512

/-- The one-hot columns of a row of tokens. -/
def oneHot (x : FVec F S1x512 .bf16) : FVec F S112x512 .bf16 :=
  select (cmpf .oeq (sitofp .bf16 (iota .tc S112x512 32 [0] iota_S112x512_d0_w32))
      (broadcastTo S112x512 x broadcasts_S1x512_S112x512))
    (broadcast S112x512 (Scalar.ofBits .bf16 0x3F80#16 : F .bf16))
    (broadcast S112x512 (Scalar.ofBits .bf16 0x0000#16 : F .bf16))

/-- Layer 1's gates after the hyperbolic tangent, in 13 groups of 32 rows. -/
def gates1 (w : FVec F S416x224 .bf16) (x : FVec F S1x512 .bf16) (h : Hid F) :
    FVec F S13x32x512 .f32 :=
  shapeCast S13x32x512
    (tanh (matmul dot_S416x224_S224x512_S416x512_1_0_0_1_n_n none w
      (concatenate S224x512 0 [⟨S112x512, oneHot x⟩, ⟨S112x512, h⟩]
        concatenates_S112x512_S112x512_S224x512_d0)
      (constant S416x512 .f32 0x00000000#32)))
    shapeCasts_S416x512_S13x32x512

/-- Layer 2's gates: layer 1's new hidden state, the own old one, and 16 rows of ones. -/
def gates2 (w : FVec F S416x240 .bf16) (h1 h2 : Hid F) : FVec F S13x32x512 .f32 :=
  shapeCast S13x32x512
    (tanh (matmul dot_S416x240_S240x512_S416x512_1_0_0_1_n_n none
      (shapeCast S416x240 w shapeCasts_S416x240_S416x240)
      (concatenate S240x512 0 [⟨S112x512, h1⟩, ⟨S112x512, h2⟩,
          ⟨S16x512, broadcast S16x512 (Scalar.ofBits .bf16 0x3F80#16 : F .bf16)⟩]
        concatenates_S112x512_S112x512_S16x512_S240x512_d0)
      (constant S416x512 .f32 0x00000000#32)))
    shapeCasts_S416x512_S13x32x512

/-- The new cell state from the gates and the old one. -/
def newC (t : FVec F S13x32x512 .f32) (c : Cel F) : Cel F :=
  mulf (broadcast S13x8x512 (Scalar.ofBits .f32 0x3F000000#32 : F .f32))
    (addf
      (mulf (addf (broadcast S13x8x512 (Scalar.ofBits .f32 0x3F800000#32 : F .f32))
        (extractStridedSlice S13x8x512 ![0, 8, 0] t slices_S13x32x512_o0_8_0_S13x8x512)) c)
      (mulf (addf (broadcast S13x8x512 (Scalar.ofBits .f32 0x3F800000#32 : F .f32))
        (extractStridedSlice S13x8x512 ![0, 0, 0] t slices_S13x32x512_o0_0_0_S13x8x512))
        (extractStridedSlice S13x8x512 ![0, 16, 0] t slices_S13x32x512_o0_16_0_S13x8x512)))

/-- The new hidden state (doubled) from the gates and the new cell state, with 8 rows of zeros. -/
def newH (t : FVec F S13x32x512 .f32) (c : Cel F) : Hid F :=
  truncf .bf16
    (concatenate S112x512 0
      [⟨S104x512, shapeCast S104x512
        (mulf (addf (broadcast S13x8x512 (Scalar.ofBits .f32 0x3F800000#32 : F .f32))
          (extractStridedSlice S13x8x512 ![0, 24, 0] t slices_S13x32x512_o0_24_0_S13x8x512))
          (tanh c)) shapeCasts_S13x8x512_S104x512⟩,
       ⟨S8x512, broadcast S8x512 (Scalar.ofBits .f32 0x00000000#32 : F .f32)⟩]
      concatenates_S104x512_S8x512_S112x512_d0) bitsLt_bf16_f32

/-- One time step of a half, on its row of tokens. -/
def stepHalf (w1 : FVec F S416x224 .bf16) (w2 : FVec F S416x240 .bf16) (x : FVec F S1x512 .bf16)
    (s : Half F) : Half F :=
  let t1 := gates1 w1 x s.1
  let c1 := newC t1 s.2.1
  let h1 := newH t1 c1
  let t2 := gates2 w2 h1 s.2.2.1
  let c2 := newC t2 s.2.2.2
  (h1, c1, newH t2 c2, c2)

/-- What the loop carries: the two halves side by side. -/
abbrev Both (F : FTy → Type) : Type :=
  Hid F × Cel F × Hid F × Cel F × Hid F × Cel F × Hid F × Cel F

/-- Two halves put side by side. -/
def pair (a b : Half F) : Both F := (a.1, a.2.1, a.2.2.1, a.2.2.2, b.1, b.2.1, b.2.2.1, b.2.2.2)

/-- The first half of what the loop carries. -/
def fstHalf (s : Both F) : Half F := (s.1, s.2.1, s.2.2.1, s.2.2.2.1)
/-- The second half of what the loop carries. -/
def sndHalf (s : Both F) : Half F := (s.2.2.2.2.1, s.2.2.2.2.2.1, s.2.2.2.2.2.2.1, s.2.2.2.2.2.2.2)

variable (𝒱 : Variants) (c : Dev nD) (bd : Option 𝒱.V) (i : grid0.Coords)
  (arg1 : Memref sig .tc .vmem S80x1x1024 .i32) (harg1 : arg1.IsWhole)
  (arg2 : Memref sig .tc .vmem S8x112 .f32) (harg2 : arg2.IsWhole)
  (arg3 : Memref sig .tc .vmem S416x8 .f32) (harg3 : arg3.IsWhole)
  (arg4 : Memref sig .tc .vmem S416x112 .f32) (harg4 : arg4.IsWhole)
  (arg5 : Memref sig .tc .vmem S416x112 .bf16) (harg5 : arg5.IsWhole)
  (arg6 : Memref sig .tc .vmem S416x240 .bf16) (harg6 : arg6.IsWhole)
  (arg7 : Memref sig .tc .vmem S112x100 .bf16) (harg7 : arg7.IsWhole)
  (arg8 : Memref sig .tc .vmem S1x100 .f32) (harg8 : arg8.IsWhole)
  (arg9 : Memref sig .tc .vmem S1024x100 .f32) (harg9 : arg9.IsWhole)
  (arg10 : Memref sig .tc .vmem S416x224 .bf16) (harg10 : arg10.IsWhole)
  (X_arg1 : BufTy.Contents (Elt F) arg1.view.ty) (X_arg6 : BufTy.Contents (Elt F) arg6.view.ty)
  (X_arg10 : BufTy.Contents (Elt F) arg10.view.ty)

/-- The tokens that trip `k` reads for its step `j` (`j < 16`). -/
def tripTok (k : Fin k0_t1_loop.trips) (j : Fin 16) : Vec F S1x1x1024 .i32 :=
  View.readAt (Elt F) arg1.view
    (Rect.unit (s := S80x1x1024) (k0_off1 k (BitVec.ofNat 32 j.val)) S1x1x1024.size
      (k0_off1_inb k j)).toLoadRect X_arg1

/-- The same at any number, past the trip's sixteen steps the last one's. -/
def tripTokN (k : Fin k0_t1_loop.trips) (j : ℕ) : Vec F S1x1x1024 .i32 :=
  tripTok arg1 X_arg1 k (Fin.ofNat 16 j)

/-- Layer 1's weights as the body reads them. -/
def w1Of : FVec F S416x224 .bf16 :=
  View.readAt (Elt F) arg10.view
    (Rect.unit ![0, 0] S416x224.size inb_S416x224_S416x224_0_0).toLoadRect X_arg10

/-- Layer 2's weights as the body reads them. -/
def w2Of : FVec F S416x240 .bf16 :=
  View.readAt (Elt F) arg6.view
    (Rect.unit ![0, 0] S416x240.size inb_S416x240_S416x240_0_0).toLoadRect X_arg6

/-- Both halves' time step, on the tokens of the step. -/
def stepBoth (w1 : FVec F S416x224 .bf16) (w2 : FVec F S416x240 .bf16) (x : Vec F S1x1x1024 .i32)
    (s : Both F) : Both F :=
  pair (stepHalf w1 w2 (tokA x) (fstHalf s)) (stepHalf w1 w2 (tokB x) (sndHalf s))

/-- The first `n` time steps of both halves. -/
def stepsBoth (w1 : FVec F S416x224 .bf16) (w2 : FVec F S416x240 .bf16)
    (x : ℕ → Vec F S1x1x1024 .i32) : ℕ → Both F → Both F
  | 0, s => s
  | n + 1, s => stepBoth w1 w2 (x n) (stepsBoth w1 w2 x n s)

open trip_k0_t1.sl in
/-- The values that one run of a trip holds after `n` of its time steps (`n ≤ 15`), from the carried
    value `s`. -/
def mid (k : Fin k0_t1_loop.trips) (s : Both F) : ℕ → Both F
  | 0 => s
  | 1 => (r_2 arg1 arg10 X_arg1 X_arg10 k s, r_1 arg1 arg10 X_arg1 X_arg10 k s,
      r_5 arg1 arg6 arg10 X_arg1 X_arg6 X_arg10 k s, r_4 arg1 arg6 arg10 X_arg1 X_arg6 X_arg10 k s,
      r_9 arg1 arg10 X_arg1 X_arg10 k s, r_6 arg1 arg10 X_arg1 X_arg10 k s,
      r_11 arg1 arg6 arg10 X_arg1 X_arg6 X_arg10 k s, r_10 arg1 arg6 arg10 X_arg1 X_arg6 X_arg10 k s)
  | 2 => (r_16 arg1 arg10 X_arg1 X_arg10 k s, r_15 arg1 arg10 X_arg1 X_arg10 k s,
      r_18 arg1 arg6 arg10 X_arg1 X_arg6 X_arg10 k s, r_17 arg1 arg6 arg10 X_arg1 X_arg6 X_arg10 k s,
      r_20 arg1 arg10 X_arg1 X_arg10 k s, r_19 arg1 arg10 X_arg1 X_arg10 k s,
      r_26 arg1 arg6 arg10 X_arg1 X_arg6 X_arg10 k s, r_25 arg1 arg6 arg10 X_arg1 X_arg6 X_arg10 k s)
  | 3 => (r_30 arg1 arg10 X_arg1 X_arg10 k s, r_28 arg1 arg10 X_arg1 X_arg10 k s,
      r_32 arg1 arg6 arg10 X_arg1 X_arg6 X_arg10 k s, r_31 arg1 arg6 arg10 X_arg1 X_arg6 X_arg10 k s,
      r_38 arg1 arg10 X_arg1 X_arg10 k s, r_37 arg1 arg10 X_arg1 X_arg10 k s,
      r_40 arg1 arg6 arg10 X_arg1 X_arg6 X_arg10 k s, r_39 arg1 arg6 arg10 X_arg1 X_arg6 X_arg10 k s)
  | 4 => (r_44 arg1 arg10 X_arg1 X_arg10 k s, r_43 arg1 arg10 X_arg1 X_arg10 k s,
      r_49 arg1 arg6 arg10 X_arg1 X_arg6 X_arg10 k s, r_48 arg1 arg6 arg10 X_arg1 X_arg6 X_arg10 k s,
      r_51 arg1 arg10 X_arg1 X_arg10 k s, r_50 arg1 arg10 X_arg1 X_arg10 k s,
      r_54 arg1 arg6 arg10 X_arg1 X_arg6 X_arg10 k s, r_53 arg1 arg6 arg10 X_arg1 X_arg6 X_arg10 k s)
  | 5 => (r_61 arg1 arg10 X_arg1 X_arg10 k s, r_60 arg1 arg10 X_arg1 X_arg10 k s,
      r_63 arg1 arg6 arg10 X_arg1 X_arg6 X_arg10 k s, r_62 arg1 arg6 arg10 X_arg1 X_arg6 X_arg10 k s,
      r_66 arg1 arg10 X_arg1 X_arg10 k s, r_65 arg1 arg10 X_arg1 X_arg10 k s,
      r_69 arg1 arg6 arg10 X_arg1 X_arg6 X_arg10 k s, r_67 arg1 arg6 arg10 X_arg1 X_arg6 X_arg10 k s)
  | 6 => (r_72 arg1 arg10 X_arg1 X_arg10 k s, r_71 arg1 arg10 X_arg1 X_arg10 k s,
      r_75 arg1 arg6 arg10 X_arg1 X_arg6 X_arg10 k s, r_74 arg1 arg6 arg10 X_arg1 X_arg6 X_arg10 k s,
      r_79 arg1 arg10 X_arg1 X_arg10 k s, r_76 arg1 arg10 X_arg1 X_arg10 k s,
      r_81 arg1 arg6 arg10 X_arg1 X_arg6 X_arg10 k s, r_80 arg1 arg6 arg10 X_arg1 X_arg6 X_arg10 k s)
  | 7 => (r_85 arg1 arg10 X_arg1 X_arg10 k s, r_84 arg1 arg10 X_arg1 X_arg10 k s,
      r_87 arg1 arg6 arg10 X_arg1 X_arg6 X_arg10 k s, r_86 arg1 arg6 arg10 X_arg1 X_arg6 X_arg10 k s,
      r_89 arg1 arg10 X_arg1 X_arg10 k s, r_88 arg1 arg10 X_arg1 X_arg10 k s,
      r_95 arg1 arg6 arg10 X_arg1 X_arg6 X_arg10 k s, r_94 arg1 arg6 arg10 X_arg1 X_arg6 X_arg10 k s)
  | 8 => (r_99 arg1 arg10 X_arg1 X_arg10 k s, r_97 arg1 arg10 X_arg1 X_arg10 k s,
      r_101 arg1 arg6 arg10 X_arg1 X_arg6 X_arg10 k s, r_100 arg1 arg6 arg10 X_arg1 X_arg6 X_arg10 k s,
      r_107 arg1 arg10 X_arg1 X_arg10 k s, r_106 arg1 arg10 X_arg1 X_arg10 k s,
      r_109 arg1 arg6 arg10 X_arg1 X_arg6 X_arg10 k s, r_108 arg1 arg6 arg10 X_arg1 X_arg6 X_arg10 k s)
  | 9 => (r_113 arg1 arg10 X_arg1 X_arg10 k s, r_112 arg1 arg10 X_arg1 X_arg10 k s,
      r_118 arg1 arg6 arg10 X_arg1 X_arg6 X_arg10 k s, r_117 arg1 arg6 arg10 X_arg1 X_arg6 X_arg10 k s,
      r_120 arg1 arg10 X_arg1 X_arg10 k s, r_119 arg1 arg10 X_arg1 X_arg10 k s,
      r_123 arg1 arg6 arg10 X_arg1 X_arg6 X_arg10 k s, r_122 arg1 arg6 arg10 X_arg1 X_arg6 X_arg10 k s)
  | 10 => (r_130 arg1 arg10 X_arg1 X_arg10 k s, r_129 arg1 arg10 X_arg1 X_arg10 k s,
      r_132 arg1 arg6 arg10 X_arg1 X_arg6 X_arg10 k s, r_131 arg1 arg6 arg10 X_arg1 X_arg6 X_arg10 k s,
      r_135 arg1 arg10 X_arg1 X_arg10 k s, r_134 arg1 arg10 X_arg1 X_arg10 k s,
      r_138 arg1 arg6 arg10 X_arg1 X_arg6 X_arg10 k s, r_136 arg1 arg6 arg10 X_arg1 X_arg6 X_arg10 k s)
  | 11 => (r_141 arg1 arg10 X_arg1 X_arg10 k s, r_140 arg1 arg10 X_arg1 X_arg10 k s,
      r_144 arg1 arg6 arg10 X_arg1 X_arg6 X_arg10 k s, r_143 arg1 arg6 arg10 X_arg1 X_arg6 X_arg10 k s,
      r_148 arg1 arg10 X_arg1 X_arg10 k s, r_145 arg1 arg10 X_arg1 X_arg10 k s,
      r_150 arg1 arg6 arg10 X_arg1 X_arg6 X_arg10 k s, r_149 arg1 arg6 arg10 X_arg1 X_arg6 X_arg10 k s)
  | 12 => (r_154 arg1 arg10 X_arg1 X_arg10 k s, r_153 arg1 arg10 X_arg1 X_arg10 k s,
      r_156 arg1 arg6 arg10 X_arg1 X_arg6 X_arg10 k s, r_155 arg1 arg6 arg10 X_arg1 X_arg6 X_arg10 k s,
      r_158 arg1 arg10 X_arg1 X_arg10 k s, r_157 arg1 arg10 X_arg1 X_arg10 k s,
      r_164 arg1 arg6 arg10 X_arg1 X_arg6 X_arg10 k s, r_163 arg1 arg6 arg10 X_arg1 X_arg6 X_arg10 k s)
  | 13 => (r_168 arg1 arg10 X_arg1 X_arg10 k s, r_166 arg1 arg10 X_arg1 X_arg10 k s,
      r_170 arg1 arg6 arg10 X_arg1 X_arg6 X_arg10 k s, r_169 arg1 arg6 arg10 X_arg1 X_arg6 X_arg10 k s,
      r_176 arg1 arg10 X_arg1 X_arg10 k s, r_175 arg1 arg10 X_arg1 X_arg10 k s,
      r_178 arg1 arg6 arg10 X_arg1 X_arg6 X_arg10 k s, r_177 arg1 arg6 arg10 X_arg1 X_arg6 X_arg10 k s)
  | 14 => (r_182 arg1 arg10 X_arg1 X_arg10 k s, r_181 arg1 arg10 X_arg1 X_arg10 k s,
      r_187 arg1 arg6 arg10 X_arg1 X_arg6 X_arg10 k s, r_186 arg1 arg6 arg10 X_arg1 X_arg6 X_arg10 k s,
      r_189 arg1 arg10 X_arg1 X_arg10 k s, r_188 arg1 arg10 X_arg1 X_arg10 k s,
      r_192 arg1 arg6 arg10 X_arg1 X_arg6 X_arg10 k s, r_191 arg1 arg6 arg10 X_arg1 X_arg6 X_arg10 k s)
  | 15 => (r_199 arg1 arg10 X_arg1 X_arg10 k s, r_198 arg1 arg10 X_arg1 X_arg10 k s,
      r_201 arg1 arg6 arg10 X_arg1 X_arg6 X_arg10 k s, r_200 arg1 arg6 arg10 X_arg1 X_arg6 X_arg10 k s,
      r_204 arg1 arg10 X_arg1 X_arg10 k s, r_203 arg1 arg10 X_arg1 X_arg10 k s,
      r_207 arg1 arg6 arg10 X_arg1 X_arg6 X_arg10 k s, r_205 arg1 arg6 arg10 X_arg1 X_arg6 X_arg10 k s)
  | _ => s

set_option maxRecDepth 100000 in
set_option maxHeartbeats 4000000 in
/-- Each of the first fifteen is a time step after the one before. -/
theorem mid_succ (k : Fin k0_t1_loop.trips) (s : Both F) (n : ℕ) (hn : n < 15) :
    mid arg1 arg6 arg10 X_arg1 X_arg6 X_arg10 k s (n + 1)
      = stepBoth (w1Of arg10 X_arg10) (w2Of arg6 X_arg6) (tripTokN arg1 X_arg1 k n)
          (mid arg1 arg6 arg10 X_arg1 X_arg6 X_arg10 k s n) := by
  interval_cases n <;> rfl

set_option maxRecDepth 100000 in
set_option maxHeartbeats 4000000 in
/-- A trip ends one time step after the fifteenth. -/
theorem trip_last (k : Fin k0_t1_loop.trips) (s : Both F) :
    tripR_k0_t1 (F := F) 𝒱 c bd i arg1 harg1 arg2 harg2 arg3 harg3 arg4 harg4 arg5 harg5 arg6 harg6
        arg7 harg7 arg8 harg8 arg9 harg9 arg10 harg10 X_arg1 X_arg6 X_arg10 k s
      = stepBoth (w1Of arg10 X_arg10) (w2Of arg6 X_arg6) (tripTokN arg1 X_arg1 k 15)
          (mid arg1 arg6 arg10 X_arg1 X_arg6 X_arg10 k s 15) := by
  unfold tripR_k0_t1 trip_k0_t1
  rfl

/-- A trip of the loop is sixteen time steps of both halves. -/
theorem trip_eq (k : Fin k0_t1_loop.trips) (s : Both F) :
    tripR_k0_t1 (F := F) 𝒱 c bd i arg1 harg1 arg2 harg2 arg3 harg3 arg4 harg4 arg5 harg5 arg6 harg6
        arg7 harg7 arg8 harg8 arg9 harg9 arg10 harg10 X_arg1 X_arg6 X_arg10 k s
      = stepsBoth (w1Of arg10 X_arg10) (w2Of arg6 X_arg6) (tripTokN arg1 X_arg1 k) 16 s := by
  have h : ∀ n, n ≤ 15 → mid arg1 arg6 arg10 X_arg1 X_arg6 X_arg10 k s n
      = stepsBoth (w1Of arg10 X_arg10) (w2Of arg6 X_arg6) (tripTokN arg1 X_arg1 k) n s := by
    intro n
    induction n with
    | zero => intro _; rfl
    | succ n ih =>
      intro hn
      rw [mid_succ arg1 arg6 arg10 X_arg1 X_arg6 X_arg10 k s n (by omega), ih (by omega)]
      rfl
  rw [trip_last, h 15 le_rfl]
  rfl

end Cert.KernelIdeal.Lstm

end
-- ==== Proof.KerValue.lean ====
/-
  One time step of the kernel, entry by entry over the extended reals. Row by row the kernel's weights are the layer's,
  scaled (`Weights1`, `Weights2`); a half of the batch then carries in each of its columns twice the hidden states and the
  cell states of the two layers (`Holds`), and one time step keeps it so (`stepHalf_holds`).
-/
module

public import proofs.«01_k».proof.Proof.KerStep
public import proofs.«01_k».proof.Proof.Spec
public import Idealize.ShloMosaic.Lib.Pointwise

@[expose] public section

noncomputable section

namespace Cert.KernelIdeal.Lstm

open Idealize.ShloMosaic Idealize.ShloMosaic.TcCoe
open Cert.KernelIdeal Cert.KernelIdeal.Gen

/-! ## Sums over padded axes -/

/-- A sum over 112 places whose last 12 terms vanish. -/
theorem sum_pad (f : Fin 112 → EReal) (h : ∀ k : Fin 12, f ⟨100 + k.val, by omega⟩ = 0) :
    ∑ k, f k = ∑ k : Fin 100, f ⟨k.val, by omega⟩ := by
  have e : ∑ k, f k = _ := Fin.sum_univ_add (a := 100) (b := 12) f
  rw [e]
  exact (congrArg (_ + ·) (Finset.sum_eq_zero fun k _ => h k)).trans (add_zero _)

/-- A sum over 240 places, in the three parts of layer 2's operand. -/
theorem sum_parts (f : Fin 240 → EReal) :
    ∑ k, f k = ∑ k : Fin 112, f ⟨k.val, by omega⟩
      + (∑ k : Fin 112, f ⟨112 + k.val, by omega⟩ + ∑ k : Fin 16, f ⟨224 + k.val, by omega⟩) := by
  have e : ∑ k, f k = _ := Fin.sum_univ_add (a := 112) (b := 128) f
  have e' : ∑ k : Fin 128, f (Fin.natAdd 112 k) = _ := Fin.sum_univ_add (a := 112) (b := 16) fun k : Fin 128 => f (Fin.natAdd 112 k)
  rw [e, e']
  refine congrArg₂ (· + ·) rfl (congrArg₂ (· + ·) rfl (Finset.sum_congr rfl fun k _ => congrArg f (Fin.ext ?_)))
  show 112 + (112 + k.val) = 224 + k.val
  omega

/-! ## The operations at an index -/

/-- The float word for one half. -/
theorem ofBits_half : Ideal.ofBits .f32 1056964608#32 = Spec.half := by
  simp [Ideal.ofBits, Ideal.ieee, Spec.half]
  rw [← EReal.coe_mul]
  norm_num

/-- A small number as a 32-bit word, made a float. -/
theorem sitofp_small (n : ℕ) (hn : n < 2 ^ 31) :
    (FloatOps.sitofp .bf16 (BitVec.ofNat 32 n) : Ideal .bf16) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The one-hot column of a token. -/
theorem oneHot_at (x : FVec Ideal S1x512 .bf16) (b : Fin 512) (v : Fin 112) (hv : x (ix2 0 b) = ((v.val : ℝ) : EReal))
    (k : Fin 112) : oneHot x (ix2 k b) = if k = v then 1 else 0 := by
  pointwise [oneHot]
  rw [sitofp_small _ (by omega), hv]
  congr 1
  rw [EReal.coe_eq_coe_iff, Nat.cast_inj, Fin.ext_iff]

/-- Layer 1's gates: the token's column of the weights, plus the weights applied to the hidden state. -/
theorem gates1_at (w : FVec Ideal S416x224 .bf16) (x : FVec Ideal S1x512 .bf16) (h : Hid Ideal) (p : Fin 13) (q : Fin 32)
    (b : Fin 512) (v : Fin 112) (hv : x (ix2 0 b) = ((v.val : ℝ) : EReal)) :
    gates1 w x h (ix3 p q b)
      = Ideal.tanh (w (ix2 ⟨p.val * 32 + q.val, by omega⟩ ⟨v.val, by omega⟩)
          + ∑ k : Fin 112, w (ix2 ⟨p.val * 32 + q.val, by omega⟩ ⟨112 + k.val, by omega⟩) * h (ix2 k b)) := by
  pointwise [gates1]
  congr 2
  simp only [oneHot_at x b v hv, mul_ite, mul_one, mul_zero, Finset.sum_ite_eq', Finset.mem_univ, if_true]

/-- Layer 2's gates: the weights applied to both hidden states, plus the sixteen columns that meet the ones. -/
theorem gates2_at (w : FVec Ideal S416x240 .bf16) (h1 h2 : Hid Ideal) (p : Fin 13) (q : Fin 32) (b : Fin 512) :
    gates2 w h1 h2 (ix3 p q b)
      = Ideal.tanh (∑ k : Fin 112, w (ix2 ⟨p.val * 32 + q.val, by omega⟩ ⟨k.val, by omega⟩) * h1 (ix2 k b)
          + (∑ k : Fin 112, w (ix2 ⟨p.val * 32 + q.val, by omega⟩ ⟨112 + k.val, by omega⟩) * h2 (ix2 k b)
            + ∑ k : Fin 16, w (ix2 ⟨p.val * 32 + q.val, by omega⟩ ⟨224 + k.val, by omega⟩))) := by
  pointwise [gates2]
  rw [sum_parts]
  refine congrArg Ideal.tanh (congrArg₂ (· + ·) ?_ (congrArg₂ (· + ·) ?_ ?_))
  · refine Finset.sum_congr rfl fun k _ => ?_
    rw [dif_pos k.isLt]
  · refine Finset.sum_congr rfl fun k _ => ?_
    rw [dif_neg (by show ¬ 112 + k.val < 112; omega), dif_pos (by show 112 + k.val - 112 < 112; omega)]
    congr 3
    exact Fin.ext (by show 112 + k.val - 112 = k.val; omega)
  · refine Finset.sum_congr rfl fun k _ => ?_
    rw [dif_neg (by show ¬ 224 + k.val < 112; omega), dif_neg (by show ¬ 224 + k.val - 112 < 112; omega), mul_one]

/-- Unit `j`'s group of eight. -/
def grp (j : Fin 100) : Fin 13 := ⟨j.val / 8, by omega⟩
/-- Unit `j`'s place in its group. -/
def plc (j : Fin 100) : Fin 8 := ⟨j.val % 8, by omega⟩
/-- The row of gate `g` of unit `j` inside the group's 32 rows. -/
def sub (g : Fin 4) (j : Fin 100) : Fin 32 := ⟨8 * g.val + j.val % 8, by omega⟩
/-- The row of gate `g` of unit `j` in the kernel's order. -/
def krow (g : Fin 4) (j : Fin 100) : Fin 416 := ⟨(grp j).val * 32 + (sub g j).val, by omega⟩

/-- The new cell state at a unit. -/
theorem newC_at (t : FVec Ideal S13x32x512 .f32) (c : Cel Ideal) (j : Fin 100) (b : Fin 512) :
    newC t c (ix3 (grp j) (plc j) b)
      = Spec.half * ((1 + t (ix3 (grp j) (sub 1 j) b)) * c (ix3 (grp j) (plc j) b)
          + (1 + t (ix3 (grp j) (sub 0 j) b)) * t (ix3 (grp j) (sub 2 j) b)) := by
  have e0 : (⟨(plc j).val, by omega⟩ : Fin 32) = sub 0 j := Fin.ext (Nat.zero_add _).symm
  pointwise [newC]
  rw [ofBits_half, e0]
  rfl

/-- The new hidden state at a unit. -/
theorem newH_at (t : FVec Ideal S13x32x512 .f32) (c : Cel Ideal) (j : Fin 100) (b : Fin 512) :
    newH t c (ix2 (⟨j.val, by omega⟩ : Fin 112) b)
      = (1 + t (ix3 (grp j) (sub 3 j) b)) * Ideal.tanh (c (ix3 (grp j) (plc j) b)) := by
  pointwise [newH]
  rw [dif_pos (by omega)]
  rfl

/-! ## One time step -/

/-- The factor by which the kernel scales each gate's rows: the logistic gates' by one half. -/
def sc (g : Fin 4) : ℝ := if g = 2 then 1 else 1 / 2

/-- The factors are not negative. -/
theorem sc_nonneg (g : Fin 4) : 0 ≤ sc g := by unfold sc; split <;> norm_num

/-- Layer 1's weights in the kernel's order: in the columns of the tokens the scaled input part of the gates, then half of the
    scaled recurrent weights, then zeros. -/
structure Weights1 (w : FVec Ideal S416x224 .bf16) (inp : Fin 100 → Fin 400 → EReal) (W : Fin 400 → Fin 100 → EReal) : Prop where
  tok : ∀ g j (v : Fin 100), w (ix2 (krow g j) ⟨v.val, by omega⟩) = (sc g : EReal) * inp v (Spec.row g j)
  hid : ∀ g j (k : Fin 100), w (ix2 (krow g j) ⟨112 + k.val, by omega⟩) = Spec.half * (W (Spec.row g j) k * (sc g : EReal))
  pad : ∀ g j (k : Fin 12), w (ix2 (krow g j) ⟨112 + (100 + k.val), by omega⟩) = 0

/-- Layer 2's weights in the kernel's order: half of the scaled input weights, half of the scaled recurrent weights, each padded
    with zeros, then the scaled bias in the first of the columns that meet the ones. -/
structure Weights2 (w : FVec Ideal S416x240 .bf16) (Wi W : Fin 400 → Fin 100 → EReal) (bias : Fin 400 → EReal) : Prop where
  inp : ∀ g j (k : Fin 100), w (ix2 (krow g j) ⟨k.val, by omega⟩) = Spec.half * (Wi (Spec.row g j) k * (sc g : EReal))
  inpPad : ∀ g j (k : Fin 12), w (ix2 (krow g j) ⟨100 + k.val, by omega⟩) = 0
  hid : ∀ g j (k : Fin 100), w (ix2 (krow g j) ⟨112 + k.val, by omega⟩) = Spec.half * (W (Spec.row g j) k * (sc g : EReal))
  hidPad : ∀ g j (k : Fin 12), w (ix2 (krow g j) ⟨112 + (100 + k.val), by omega⟩) = 0
  bias : ∀ g j, w (ix2 (krow g j) ⟨224, by omega⟩) = bias (Spec.row g j) * (sc g : EReal)
  biasPad : ∀ g j (k : Fin 15), w (ix2 (krow g j) ⟨224 + (k.val + 1), by omega⟩) = 0

/-- A hidden state as stored holds in column `b` twice the layer's. -/
def HoldsH (h : Hid Ideal) (b : Fin 512) (q : Fin 100 → EReal) : Prop :=
  ∀ j : Fin 100, h (ix2 (⟨j.val, by omega⟩ : Fin 112) b) = 2 * q j

/-- A cell state as stored holds in column `b` the layer's. -/
def HoldsC (c : Cel Ideal) (b : Fin 512) (q : Fin 100 → EReal) : Prop :=
  ∀ j : Fin 100, c (ix3 (grp j) (plc j) b) = q j

/-- The gates after the tangent hold in column `b` the tangent of the scaled gates of a layer. -/
def HoldsG (t : FVec Ideal S13x32x512 .f32) (b : Fin 512) (G : Fin 400 → EReal) : Prop :=
  ∀ g j, t (ix3 (grp j) (sub g j) b) = Ideal.tanh ((sc g : EReal) * G (Spec.row g j))

/-- The weights applied to a stored hidden state, in a column that holds twice the layer's. -/
theorem sum_weights {h : Hid Ideal} {b : Fin 512} {q : Fin 100 → EReal} (hh : HoldsH h b q) (u : Fin 112 → EReal)
    (W : Fin 100 → EReal) (s : ℝ) (hs : 0 ≤ s) (hu : ∀ k : Fin 100, u ⟨k.val, by omega⟩ = Spec.half * (W k * (s : EReal)))
    (hp : ∀ k : Fin 12, u ⟨100 + k.val, by omega⟩ = 0) :
    ∑ k, u k * h (ix2 k b) = (s : EReal) * ∑ k, q k * W k := by
  rw [sum_pad _ fun k => by rw [hp, zero_mul], Spec.mul_sum_of_nonneg _ _ hs]
  refine Finset.sum_congr rfl fun k _ => ?_
  rw [hu, hh, Spec.weight_eq]

/-- Layer 1's gates. -/
theorem gates1_holds {w : FVec Ideal S416x224 .bf16} {inp : Fin 100 → Fin 400 → EReal} {W : Fin 400 → Fin 100 → EReal}
    (hw : Weights1 w inp W) {x : FVec Ideal S1x512 .bf16} {b : Fin 512} {v : Fin 100}
    (hv : x (ix2 0 b) = ((v.val : ℝ) : EReal)) {h : Hid Ideal} {q : Fin 100 → EReal} (hh : HoldsH h b q) :
    HoldsG (gates1 w x h) b (Spec.gate (inp v) W q) := by
  intro g j
  rw [gates1_at w x h _ _ b ⟨v.val, by omega⟩ hv]
  congr 1
  rw [Spec.gate, Spec.mul_add_of_real (sc_nonneg g)]
  exact congrArg₂ (· + ·) (hw.tok g j v)
    (sum_weights hh (fun k => w (ix2 (krow g j) ⟨112 + k.val, by omega⟩)) _ _ (sc_nonneg g) (hw.hid g j) (hw.pad g j))

/-- Layer 2's gates. -/
theorem gates2_holds {w : FVec Ideal S416x240 .bf16} {Wi W : Fin 400 → Fin 100 → EReal} {b0 b0' : Fin 400 → EReal}
    (hw : Weights2 w Wi W fun r => b0 r + b0' r) {b : Fin 512} {h1 h2 : Hid Ideal} {q1 q2 : Fin 100 → EReal}
    (hh1 : HoldsH h1 b q1) (hh2 : HoldsH h2 b q2) :
    HoldsG (gates2 w h1 h2) b (Spec.gate (Spec.lin q1 Wi b0 b0') W q2) := by
  intro g j
  rw [gates2_at w h1 h2 _ _ b]
  congr 1
  rw [Spec.gate, Spec.lin, Spec.mul_add_of_real (sc_nonneg g), Spec.mul_add_of_real (sc_nonneg g), add_assoc,
    add_comm ((sc g : EReal) * (b0 _ + b0' _))]
  refine congrArg₂ (· + ·)
    (sum_weights hh1 (fun k => w (ix2 (krow g j) ⟨k.val, by omega⟩)) _ _ (sc_nonneg g) (hw.inp g j) (hw.inpPad g j))
    (congrArg₂ (· + ·)
      (sum_weights hh2 (fun k => w (ix2 (krow g j) ⟨112 + k.val, by omega⟩)) _ _ (sc_nonneg g) (hw.hid g j) (hw.hidPad g j)) ?_)
  rw [Fin.sum_univ_succ]
  refine (congrArg (_ + ·) (Finset.sum_eq_zero fun k _ => hw.biasPad g j k)).trans ?_
  rw [add_zero]
  exact (hw.bias g j).trans (mul_comm _ _)

/-- The cell state of a step. -/
theorem newC_holds {t : FVec Ideal S13x32x512 .f32} {c : Cel Ideal} {b : Fin 512} {G : Fin 400 → EReal} {q : Fin 100 → EReal}
    (ht : HoldsG t b G) (hc : HoldsC c b q) : HoldsC (newC t c) b (Spec.cell G q) := by
  intro j
  rw [newC_at, ht, ht, ht, hc, Spec.cell, ← Spec.cell_eq]
  have e : (sc 2 : EReal) = 1 := rfl
  rw [e, one_mul]
  rfl

/-- The hidden state of a step. -/
theorem newH_holds {t : FVec Ideal S13x32x512 .f32} {c : Cel Ideal} {b : Fin 512} {G : Fin 400 → EReal} {q : Fin 100 → EReal}
    (ht : HoldsG t b G) (hc : HoldsC c b q) : HoldsH (newH t c) b (Spec.hid G q) := by
  intro j
  rw [newH_at, ht, hc, Spec.hid, ← Spec.hid_eq]
  rfl

/-- A half holds in column `b` the states of the two layers. -/
def Holds (s : Half Ideal) (b : Fin 512) (s1 s2 : Spec.St) : Prop :=
  HoldsH s.1 b s1.1 ∧ HoldsC s.2.1 b s1.2 ∧ HoldsH s.2.2.1 b s2.1 ∧ HoldsC s.2.2.2 b s2.2

/-- One time step of a half is one step of layer 1 on the token's input and one of layer 2 on the new hidden state. -/
theorem stepHalf_holds {w1 : FVec Ideal S416x224 .bf16} {inp : Fin 100 → Fin 400 → EReal} {Wh : Fin 400 → Fin 100 → EReal}
    (hw1 : Weights1 w1 inp Wh) {w2 : FVec Ideal S416x240 .bf16} {Wi W : Fin 400 → Fin 100 → EReal} {b0 b0' : Fin 400 → EReal}
    (hw2 : Weights2 w2 Wi W fun r => b0 r + b0' r) {x : FVec Ideal S1x512 .bf16} {b : Fin 512} {v : Fin 100}
    (hv : x (ix2 0 b) = ((v.val : ℝ) : EReal)) {s : Half Ideal} {s1 s2 : Spec.St} (hs : Holds s b s1 s2) :
    Holds (stepHalf w1 w2 x s) b (Spec.step (inp v) Wh s1)
      (Spec.step (Spec.lin (Spec.step (inp v) Wh s1).1 Wi b0 b0') W s2) := by
  obtain ⟨a1, a2, a3, a4⟩ := hs
  have g1 := gates1_holds hw1 hv a1
  have c1 := newC_holds g1 a2
  have h1 := newH_holds g1 c1
  have g2 := gates2_holds hw2 h1 a3
  have c2 := newC_holds g2 a4
  exact ⟨h1, c1, newH_holds g2 c2, c2⟩

end Cert.KernelIdeal.Lstm

end
-- ==== Proof.KerLoop.lean ====
/-
  The kernel's loop over the time steps: after five trips of sixteen steps, each column of a block holds the two layers' states
  after eighty steps on the column's tokens.
-/
module

public import proofs.«01_k».proof.Proof.KerValue
public import Idealize.ShloMosaic.Lib.Pipeline.ValueKit

@[expose] public section

set_option maxRecDepth 16384

noncomputable section

namespace Cert.KernelIdeal.Lstm

open Idealize.ShloMosaic Idealize.ShloMosaic.TcCoe
open Cert.KernelIdeal.Gen

/-- Layer 1's states on a row of tokens, the input part of a token's gates being `inp`. -/
def lay1 (inp : Fin 100 → Fin 400 → EReal) (Wh : Fin 400 → Fin 100 → EReal) (v : ℕ → Fin 100) : ℕ → Spec.St :=
  Spec.run (fun t => inp (v t)) Wh

/-- What a half holds after `n` time steps on a row of tokens, in a column. -/
def HoldsAt (inp : Fin 100 → Fin 400 → EReal) (Wh Wi W : Fin 400 → Fin 100 → EReal) (b0 b0' : Fin 400 → EReal)
    (v : ℕ → Fin 100) (s : Half Ideal) (b : Fin 512) (n : ℕ) : Prop :=
  Holds s b (lay1 inp Wh v n) (Spec.layer2 (lay1 inp Wh v) Wi W b0 b0' n)

variable {inp : Fin 100 → Fin 400 → EReal} {Wh Wi W : Fin 400 → Fin 100 → EReal} {b0 b0' : Fin 400 → EReal}
  {v : ℕ → Fin 100} {b : Fin 512}

/-- Time steps of a pair of halves, in one of them: `n` steps after `k`, it holds the states after `k + n` steps. -/
theorem stepsBoth_holds {w1 : FVec Ideal S416x224 .bf16} (hw1 : Weights1 w1 inp Wh) {w2 : FVec Ideal S416x240 .bf16}
    (hw2 : Weights2 w2 Wi W fun r => b0 r + b0' r) (half : Both Ideal → Half Ideal)
    (tok : Vec Ideal S1x1x1024 .i32 → FVec Ideal S1x512 .bf16)
    (hhalf : ∀ x s, half (stepBoth w1 w2 x s) = stepHalf w1 w2 (tok x) (half s))
    (x : ℕ → Vec Ideal S1x1x1024 .i32) (k : ℕ) (s : Both Ideal) (hs : HoldsAt inp Wh Wi W b0 b0' v (half s) b k) (n : ℕ)
    (hx : ∀ j, j < n → tok (x j) (ix2 0 b) = (((v (k + j)).val : ℝ) : EReal)) :
    HoldsAt inp Wh Wi W b0 b0' v (half (stepsBoth w1 w2 x n s)) b (k + n) := by
  induction n with
  | zero => exact hs
  | succ n ih =>
    have h := ih fun j hj => hx j (by omega)
    have e : half (stepsBoth w1 w2 x (n + 1) s) = stepHalf w1 w2 (tok (x n)) (half (stepsBoth w1 w2 x n s)) := hhalf _ _
    rw [e]
    exact stepHalf_holds hw1 hw2 (hx n (by omega)) h

/-- The state that the loop starts from: zeros. -/
def start : Both Ideal :=
  (k0_pay290, k0_pay291, k0_pay290, k0_pay291, k0_pay290, k0_pay291, k0_pay290, k0_pay291)

/-- The hidden state before the first step is zero in every column … -/
theorem zeroH_holds : HoldsH (k0_pay290 (F := Ideal)) b fun _ => 0 := by
  intro j
  rw [mul_zero]
  pointwise [k0_pay290]

/-- … and so is the cell state. -/
theorem zeroC_holds : HoldsC (k0_pay291 (F := Ideal)) b fun _ => 0 := by
  intro j
  pointwise [k0_pay291]

/-- The start is the states before the first step, in each half. -/
theorem start_holds : HoldsAt inp Wh Wi W b0 b0' v (fstHalf start) b 0 ∧ HoldsAt inp Wh Wi W b0 b0' v (sndHalf start) b 0 :=
  ⟨⟨zeroH_holds, zeroC_holds, zeroH_holds, zeroC_holds⟩, ⟨zeroH_holds, zeroC_holds, zeroH_holds, zeroC_holds⟩⟩

variable (𝒱 : Variants) (c : Dev nD) (bd : Option 𝒱.V) (i : grid0.Coords)
  (arg1 : Memref sig .tc .vmem S80x1x1024 .i32) (harg1 : arg1.IsWhole)
  (arg2 : Memref sig .tc .vmem S8x112 .f32) (harg2 : arg2.IsWhole)
  (arg3 : Memref sig .tc .vmem S416x8 .f32) (harg3 : arg3.IsWhole)
  (arg4 : Memref sig .tc .vmem S416x112 .f32) (harg4 : arg4.IsWhole)
  (arg5 : Memref sig .tc .vmem S416x112 .bf16) (harg5 : arg5.IsWhole)
  (arg6 : Memref sig .tc .vmem S416x240 .bf16) (harg6 : arg6.IsWhole)
  (arg7 : Memref sig .tc .vmem S112x100 .bf16) (harg7 : arg7.IsWhole)
  (arg8 : Memref sig .tc .vmem S1x100 .f32) (harg8 : arg8.IsWhole)
  (arg9 : Memref sig .tc .vmem S1024x100 .f32) (harg9 : arg9.IsWhole)
  (arg10 : Memref sig .tc .vmem S416x224 .bf16) (harg10 : arg10.IsWhole)
  (x0 : Vec Ideal S80x1x1024 .i32) (X_arg6 : BufTy.Contents (Elt Ideal) arg6.view.ty)
  (X_arg10 : BufTy.Contents (Elt Ideal) arg10.view.ty)

/-- The tokens of step `j` of trip `k`: row `16 k + j` of the block's tokens. -/
theorem tripTokN_at (k : Fin k0_t1_loop.trips) (j : ℕ) (hj : j < 16) (hs : 16 * k.val + j < 80) (p : Fin 1024) :
    tripTokN arg1 (harg1.unread x0) k j (ix3 0 0 p) = x0 (ix3 ⟨16 * k.val + j, hs⟩ 0 p) := by
  have e := k0_off1_eq k (Fin.ofNat 16 j)
  have ej : (Fin.ofNat 16 j).val = j := Nat.mod_eq_of_lt hj
  unfold tripTokN tripTok
  rw [View.readAt_eq_ld, harg1.read_unread]
  refine View.ld_unit_apply_of _ _ _ _ _ _ ?_
  intro a
  have ea : k0_off1 k (BitVec.ofNat 32 (Fin.ofNat 16 j).val) a = (![16 * k.val + j, 0, 0] : Fin 3 → ℕ) a := by rw [e, ej]
  refine Eq.trans ?_ (congrArg (· + ((ix3 0 0 p : S1x1x1024.Idx) a).val) ea.symm)
  fin_cases a
  · exact (Nat.add_zero _).symm
  · rfl
  · exact (Nat.zero_add _).symm

/-- The loop, in one of the halves: after `n` trips it holds the states after `16 n` steps. -/
theorem loop_holds (hw1 : Weights1 (w1Of arg10 X_arg10) inp Wh)
    (hw2 : Weights2 (w2Of arg6 X_arg6) Wi W fun r => b0 r + b0' r) (half : Both Ideal → Half Ideal)
    (tok : Vec Ideal S1x1x1024 .i32 → FVec Ideal S1x512 .bf16)
    (hhalf : ∀ x s, half (stepBoth (w1Of arg10 X_arg10) (w2Of arg6 X_arg6) x s)
      = stepHalf (w1Of arg10 X_arg10) (w2Of arg6 X_arg6) (tok x) (half s))
    (h0 : HoldsAt inp Wh Wi W b0 b0' v (half start) b 0) (p : Fin 1024)
    (htok : ∀ x, tok x (ix2 0 b) = FloatOps.sitofp .bf16 (x (ix3 0 0 p)))
    (hv : ∀ t : Fin 80, (x0 (ix3 t 0 p) : BitVec 32) = BitVec.ofNat 32 (v t.val).val) (n : ℕ) (hn : n ≤ k0_t1_loop.trips) :
    HoldsAt inp Wh Wi W b0 b0' v
      (half (st_k0_t1 (F := Ideal) 𝒱 c bd i arg1 harg1 arg2 harg2 arg3 harg3 arg4 harg4 arg5 harg5 arg6 harg6
        arg7 harg7 arg8 harg8 arg9 harg9 arg10 harg10 (harg1.unread x0) X_arg6 X_arg10 start n)) b (16 * n) := by
  have h5 : k0_t1_loop.trips = 5 := by decide
  induction n with
  | zero => exact h0
  | succ n ih =>
    rw [st_k0_t1_succ 𝒱 c bd i arg1 harg1 arg2 harg2 arg3 harg3 arg4 harg4 arg5 harg5 arg6 harg6
        arg7 harg7 arg8 harg8 arg9 harg9 arg10 harg10 (harg1.unread x0) X_arg6 X_arg10 start ⟨n, hn⟩, trip_eq]
    refine stepsBoth_holds hw1 hw2 half tok hhalf _ (16 * n) _ (ih (by omega)) 16 fun j hj => ?_
    rw [htok, tripTokN_at arg1 harg1 x0 ⟨n, hn⟩ j hj (by show 16 * n + j < 80; omega), hv]
    exact sitofp_small _ (by omega)

end Cert.KernelIdeal.Lstm

end
-- ==== Proof.KerHost.lean ====
/-
  The arrays that the launch prepares for the kernel, as functions of the arguments: the tokens transposed, the embedding
  table transposed and padded, the weights in the kernel's row order, scaled and padded.
-/
module

public import proofs.«01_k».proof.Proof.Gen.KernelIdeal.Value
public import Idealize.ShloMosaic.Lib.StableHlo.RunRead

@[expose] public section

set_option maxRecDepth 16384

noncomputable section

namespace Cert.KernelIdeal.Lstm

open Idealize.ShloMosaic Idealize.ShloMosaic.TcCoe
open Cert.KernelIdeal.Gen

variable {F : FTy → Type} [FloatOps F]

/-- The zero that pads. -/
def hostZero : FVec F S_ .f32 := sitofp .f32 (constantI S_ 32 0#32)

/-- The gates' factors, from their four words. -/
def hostScale (l : Fin 4 → BitVec 32) : FVec F S4 .f32 := fun i => FloatOps.ofBits .f32 (l (S4.rowMajor i))

/-- The tokens, a row per time step. -/
def hostTok (x : Vec F S8192x80 .i32) : Vec F S80x1x8192 .i32 :=
  shapeCast S80x1x8192 (transpose S80x8192 [1, 0] x transposes_S8192x80_S80x8192_1_0) shapeCasts_S80x8192_S80x1x8192

/-- The embedding table transposed, with columns of zeros to 112. -/
def hostEmb (e : FVec F S100x8 .f32) : FVec F S8x112 .f32 :=
  pad S8x112 ![0, 0] ![0, 12] ![0, 0] (transpose S8x100 [1, 0] e transposes_S100x8_S8x100_1_0) hostZero
    pads_S8x100_S8x112_000_0120 h_S_

/-- Layer 1's input weights: each gate's rows scaled, padded to 104, in groups of eight units. -/
def hostWi (l : Fin 4 → BitVec 32) (w : FVec F S400x8 .f32) : FVec F S416x8 .f32 :=
  shapeCast S416x8
    (transpose S13x4x8x8 [1, 0, 2, 3]
      (shapeCast S4x13x8x8
        (pad S4x104x8 ![0, 0, 0] ![0, 4, 0] ![0, 0, 0]
          (mulf (shapeCast S4x100x8 w shapeCasts_S400x8_S4x100x8)
            (broadcastInDim S4x100x8 ![0, 1, 2] bcast_S4x1x1_S4x100x8_0_1_2 (broadcastInDim S4x1x1 ![0] bcast_S4_S4x1x1_0 (hostScale l))))
          hostZero pads_S4x100x8_S4x104x8_000_040_000 h_S_)
        shapeCasts_S4x104x8_S4x13x8x8) transposes_S4x13x8x8_S13x4x8x8_1_0_2_3) shapeCasts_S13x4x8x8_S416x8

/-- A layer's biases, in the same order. -/
def hostBias (l : Fin 4 → BitVec 32) (b b' : FVec F S400 .f32) : FVec F S416x1 .f32 :=
  shapeCast S416x1
    (transpose S13x4x8 [1, 0, 2]
      (shapeCast S4x13x8
        (pad S4x104 ![0, 0] ![0, 4] ![0, 0]
          (mulf (shapeCast S4x100 (addf b b') shapeCasts_S400_S4x100)
            (broadcastInDim S4x100 ![0, 1] bcast_S4x1_S4x100_0_1 (broadcastInDim S4x1 ![0] bcast_S4_S4x1_0 (hostScale l))))
          hostZero pads_S4x100_S4x104_000_040 h_S_)
        shapeCasts_S4x104_S4x13x8) transposes_S4x13x8_S13x4x8_1_0_2) shapeCasts_S13x4x8_S416x1

/-- Weights on a hidden state: each gate's rows scaled, in the same order, halved, with columns of zeros to 112. -/
def hostWh (l : Fin 4 → BitVec 32) (w : FVec F S400x100 .f32) : FVec F S416x112 .f32 :=
  pad S416x112 ![0, 0] ![0, 12] ![0, 0]
    (mulf (broadcastInDim S416x100 ![] bcast_S_S416x100 (constant S_ .f32 0x3F000000#32))
      (shapeCast S416x100
        (transpose S13x4x8x100 [1, 0, 2, 3]
          (shapeCast S4x13x8x100
            (pad S4x104x100 ![0, 0, 0] ![0, 4, 0] ![0, 0, 0]
              (mulf (shapeCast S4x100x100 w shapeCasts_S400x100_S4x100x100)
                (broadcastInDim S4x100x100 ![0, 1, 2] bcast_S4x1x1_S4x100x100_0_1_2
                  (broadcastInDim S4x1x1 ![0] bcast_S4_S4x1x1_0 (hostScale l))))
              hostZero pads_S4x100x100_S4x104x100_000_040_000 h_S_)
            shapeCasts_S4x104x100_S4x13x8x100) transposes_S4x13x8x100_S13x4x8x100_1_0_2_3) shapeCasts_S13x4x8x100_S416x100))
    hostZero pads_S416x100_S416x112_000_0120 h_S_

/-- Layer 2's weights: those on layer 1's hidden state, those on its own, and the bias with columns of zeros to 16. -/
def hostW2 (l₁ l₂ l₃ : Fin 4 → BitVec 32) (wi wh : FVec F S400x100 .f32) (b b' : FVec F S400 .f32) : FVec F S416x240 .bf16 :=
  truncf .bf16
    (concatenate S416x240 1
      [⟨S416x112, hostWh l₁ wi⟩, ⟨S416x112, hostWh l₂ wh⟩,
        ⟨S416x16, pad S416x16 ![0, 0] ![0, 15] ![0, 0] (hostBias l₃ b b') hostZero pads_S416x1_S416x16_000_0150 h_S_⟩]
      concatenates_S416x112_S416x112_S416x16_S416x240_d1) bitsLt_bf16_f32

/-- The last linear map's weights transposed and halved, with rows of zeros to 112. -/
def hostFc (w : FVec F S100x100 .f32) : FVec F S112x100 .bf16 :=
  truncf .bf16
    (pad S112x100 ![0, 0] ![12, 0] ![0, 0]
      (mulf (broadcastInDim S100x100 ![] bcast_S_S100x100 (constant S_ .f32 0x3F000000#32))
        (transpose S100x100 [1, 0] w transposes_S100x100_S100x100_1_0))
      hostZero pads_S100x100_S112x100_0120_000 h_S_) bitsLt_bf16_f32

variable (m : (ℓ : Loc nD τ sig) → Buf (Elt F) ℓ) (c : Dev nD)

/-! ## What the region finds -/

/-- What the launch finds in each window's array: the tokens transposed … -/
theorem V_v1 : V m c main_v1 = hostTok (m ((c : Thread nD τ).loc main_arg0)) := by
  unfold V
  after_reads_simp
  rfl

/-- … the embedding transposed and padded … -/
theorem V_v3 : V m c main_v3 = hostEmb (m ((c : Thread nD τ).loc main_arg1)) := by
  unfold V
  after_reads_simp
  rfl

/-- … layer 1's input weights in the kernel's order … -/
theorem V_v11 : V m c main_v11 = hostWi lit0 (m ((c : Thread nD τ).loc main_arg2)) := by
  unfold V
  after_reads_simp
  rfl

/-- … its bias in that order, repeated along the columns … -/
theorem V_v21 : V m c main_v21 = broadcastInDim S416x112 ![0, 1] bcast_S416x1_S416x112_0_1 (hostBias lit1 (m ((c : Thread nD τ).loc main_arg4)) (m ((c : Thread nD τ).loc main_arg5))) := by
  unfold V
  after_reads_simp
  rfl

/-- … its recurrent weights in that order … -/
theorem V_v33 : V m c main_v33 = truncf .bf16 (hostWh lit2 (m ((c : Thread nD τ).loc main_arg3))) bitsLt_bf16_f32 := by
  unfold V
  after_reads_simp
  rfl

/-- … layer 2's weights and bias in one array … -/
theorem V_v67 : V m c main_v67 = hostW2 lit4 lit5 lit3 (m ((c : Thread nD τ).loc main_arg6)) (m ((c : Thread nD τ).loc main_arg7))
    (m ((c : Thread nD τ).loc main_arg8)) (m ((c : Thread nD τ).loc main_arg9)) := by
  unfold V
  after_reads_simp
  rfl

/-- … the readout's weights transposed and halved … -/
theorem V_v72 : V m c main_v72 = hostFc (m ((c : Thread nD τ).loc main_arg10)) := by
  unfold V
  after_reads_simp
  rfl

/-- … and the readout's bias as a row. -/
theorem V_v73 : V m c main_v73 = shapeCast S1x100 (show FVec F S100 .f32 from m ((c : Thread nD τ).loc main_arg11)) shapeCasts_S100_S1x100 := by
  unfold V
  after_reads_simp
  rfl

end Cert.KernelIdeal.Lstm

end
-- ==== Proof.KerWeights.lean ====
/-
  The prepared weights at an index: gate `g` of unit `j` holds the gate's row of the argument, times the gate's factor; the
  padding holds zeros. From these, the two weight arrays of the time step are the layers' weights in the kernel's order.
-/
module

public import proofs.«01_k».proof.Proof.KerHost
public import proofs.«01_k».proof.Proof.KerValue
public import Idealize.ShloMosaic.Lib.Pipeline.ValueKit

@[expose] public section

set_option maxRecDepth 16384

noncomputable section

namespace Cert.KernelIdeal.Lstm

open Idealize.ShloMosaic Idealize.ShloMosaic.TcCoe
open Cert.KernelIdeal.Gen

/-- A row of the kernel's order names its gate … -/
theorem krow_gate (g : Fin 4) (j : Fin 100) : (krow g j).val / 8 % 4 = g.val := by
  show (j.val / 8 * 32 + (8 * g.val + j.val % 8)) / 8 % 4 = g.val
  omega

/-- … and its unit. -/
theorem krow_unit (g : Fin 4) (j : Fin 100) : (krow g j).val / 32 * 8 + (krow g j).val % 8 = j.val := by
  show (j.val / 8 * 32 + (8 * g.val + j.val % 8)) / 32 * 8 + (j.val / 8 * 32 + (8 * g.val + j.val % 8)) % 8 = j.val
  omega

/-- The padding is zero. -/
theorem hostZero_at (i : S_.Idx) : hostZero (F := Ideal) i = 0 := by
  show (((0#32 : BitVec 32).toInt : ℝ) : EReal) = 0
  simp

/-- The gates' factors. -/
theorem hostScale_at (l : Fin 4 → BitVec 32) (hl : ∀ g, l g = lit0 g) (g : Fin 4) :
    hostScale (F := Ideal) l (ix1 g) = (sc g : EReal) := by
  have e : S4.rowMajor (ix1 g) = g := by fin_cases g <;> rfl
  show Ideal.ofBits .f32 (l (S4.rowMajor (ix1 g))) = _
  rw [e, hl]
  have half : Ideal.ofBits .f32 0x3F000000#32 = ((1 / 2 : ℝ) : EReal) := ofBits_half
  fin_cases g
  · exact half
  · exact half
  · show Ideal.ofBits .f32 0x3F800000#32 = ((1 : ℝ) : EReal)
    simp
  · exact half

/-- The tokens. -/
theorem hostTok_at (x : Vec Ideal S8192x80 .i32) (t : Fin 80) (n : Fin 8192) : hostTok x (ix3 t 0 n) = x (ix2 n t) := by
  pointwise [hostTok]

/-- The embedding table. -/
theorem hostEmb_at (x : FVec Ideal S100x8 .f32) (e : Fin 8) (v : Fin 100) :
    hostEmb x (ix2 e (⟨v.val, by omega⟩ : Fin 112)) = x (ix2 v e) := by
  pointwise [hostEmb]

/-- Layer 1's input weights. -/
theorem hostWi_at (l : Fin 4 → BitVec 32) (w : FVec Ideal S400x8 .f32) (r : Fin 416) (g : Fin 4) (j : Fin 100)
    (hg : r.val / 8 % 4 = g.val) (hj : r.val / 32 * 8 + r.val % 8 = j.val) (e : Fin 8) :
    hostWi l w (ix2 r e) = w (ix2 (Spec.row g j) e) * hostScale l (ix1 g) := by
  pointwise [hostWi]
  simp only [hg, hj]
  rw [dif_pos ⟨g.isLt, j.isLt⟩]
  rfl

/-- A layer's biases. -/
theorem hostBias_at (l : Fin 4 → BitVec 32) (b b' : FVec Ideal S400 .f32) (r : Fin 416) (g : Fin 4) (j : Fin 100)
    (hg : r.val / 8 % 4 = g.val) (hj : r.val / 32 * 8 + r.val % 8 = j.val) :
    hostBias l b b' (ix2 r 0)
      = (b (ix1 (Spec.row g j)) + b' (ix1 (Spec.row g j))) * hostScale l (ix1 g) := by
  pointwise [hostBias]
  simp only [hg, hj]
  rw [dif_pos ⟨g.isLt, j.isLt⟩]
  rfl

/-- Weights on a hidden state. -/
theorem hostWh_at (l : Fin 4 → BitVec 32) (w : FVec Ideal S400x100 .f32) (r : Fin 416) (g : Fin 4) (j : Fin 100)
    (hg : r.val / 8 % 4 = g.val) (hj : r.val / 32 * 8 + r.val % 8 = j.val) (k : Fin 100) :
    hostWh l w (ix2 r (⟨k.val, by omega⟩ : Fin 112))
      = Spec.half * (w (ix2 (Spec.row g j) k) * hostScale l (ix1 g)) := by
  pointwise [hostWh]
  refine congrArg₂ (· * ·) ofBits_half ?_
  simp only [hg, hj]
  rw [dif_pos ⟨g.isLt, j.isLt⟩]
  rfl

/-- Their padding. -/
theorem hostWh_pad (l : Fin 4 → BitVec 32) (w : FVec Ideal S400x100 .f32) (r : Fin 416) (k : Fin 12) :
    hostWh l w (ix2 r (⟨100 + k.val, by omega⟩ : Fin 112)) = 0 := by
  pointwise [hostWh]
  exact hostZero_at _

/-- The last linear map's weights. -/
theorem hostFc_at (w : FVec Ideal S100x100 .f32) (k v : Fin 100) :
    hostFc w (ix2 (⟨k.val, by omega⟩ : Fin 112) v) = Spec.half * w (ix2 v k) := by
  pointwise [hostFc]
  rw [ofBits_half]

/-- The last twelve rows of the readout's weights are zero. -/
theorem hostFc_pad (w : FVec Ideal S100x100 .f32) (k : Fin 12) (v : Fin 100) :
    hostFc w (ix2 (⟨100 + k.val, by omega⟩ : Fin 112) v) = 0 := by
  pointwise [hostFc]
  exact hostZero_at _

/-- Layer 2's weights at their four parts. -/
theorem hostW2_in (l₁ l₂ l₃ : Fin 4 → BitVec 32) (wi wh : FVec Ideal S400x100 .f32) (b b' : FVec Ideal S400 .f32)
    (r : Fin 416) (k : Fin 112) : hostW2 l₁ l₂ l₃ wi wh b b' (ix2 r (⟨k.val, by omega⟩ : Fin 240)) = hostWh l₁ wi (ix2 r k) := by
  pointwise [hostW2]

/-- Columns 112 to 223 of the second weight array are the weights on the layer's own hidden state … -/
theorem hostW2_hid (l₁ l₂ l₃ : Fin 4 → BitVec 32) (wi wh : FVec Ideal S400x100 .f32) (b b' : FVec Ideal S400 .f32)
    (r : Fin 416) (k : Fin 112) :
    hostW2 l₁ l₂ l₃ wi wh b b' (ix2 r (⟨112 + k.val, by omega⟩ : Fin 240)) = hostWh l₂ wh (ix2 r k) := by
  pointwise [hostW2]

/-- … column 224 is the bias … -/
theorem hostW2_bias (l₁ l₂ l₃ : Fin 4 → BitVec 32) (wi wh : FVec Ideal S400x100 .f32) (b b' : FVec Ideal S400 .f32)
    (r : Fin 416) : hostW2 l₁ l₂ l₃ wi wh b b' (ix2 r (⟨224, by omega⟩ : Fin 240)) = hostBias l₃ b b' (ix2 r 0) := by
  pointwise [hostW2]

/-- … and the last fifteen columns are zero. -/
theorem hostW2_pad (l₁ l₂ l₃ : Fin 4 → BitVec 32) (wi wh : FVec Ideal S400x100 .f32) (b b' : FVec Ideal S400 .f32)
    (r : Fin 416) (k : Fin 15) : hostW2 l₁ l₂ l₃ wi wh b b' (ix2 r (⟨224 + (k.val + 1), by omega⟩ : Fin 240)) = 0 := by
  pointwise [hostW2]
  rw [dif_neg (by omega), dif_neg (by omega), dif_neg (by omega)]
  exact hostZero_at _

/-- The body's first product: the padded embedding table through layer 1's input weights, plus the bias. -/
theorem pay285_at (w : FVec Ideal S416x8 .f32) (e : FVec Ideal S8x112 .f32) (b : FVec Ideal S416x112 .f32) (r : Fin 416) (v : Fin 112) :
    k0_pay285 (F := Ideal) w e b (ix2 r v) = (∑ k : Fin 8, w (ix2 r k) * e (ix2 k v)) + b (ix2 r v) := by
  pointwise [k0_pay285]

/-- The weights on a hidden state hold half of the scaled weights. -/
theorem hostWh_holds (l : Fin 4 → BitVec 32) (hl : ∀ g, l g = lit0 g) (w : FVec Ideal S400x100 .f32) (g : Fin 4) (j k : Fin 100) :
    hostWh l w (ix2 (krow g j) (⟨k.val, by omega⟩ : Fin 112)) = Spec.half * (w (ix2 (Spec.row g j) k) * (sc g : EReal)) := by
  rw [hostWh_at l w (krow g j) g j (krow_gate g j) (krow_unit g j), hostScale_at l hl]

/-- The second weight array is layer 2's weights in the kernel's order. -/
theorem weights2 (wi wh : FVec Ideal S400x100 .f32) (b b' : FVec Ideal S400 .f32) :
    Weights2 (hostW2 lit4 lit5 lit3 wi wh b b') (fun r k => wi (ix2 r k)) (fun r k => wh (ix2 r k))
      (fun r => b (ix1 r) + b' (ix1 r)) where
  inp g j k := (hostW2_in _ _ _ _ _ _ _ (krow g j) ⟨k.val, by omega⟩).trans (hostWh_holds lit4 (fun _ => rfl) wi g j k)
  inpPad g j k := (hostW2_in _ _ _ _ _ _ _ (krow g j) ⟨100 + k.val, by omega⟩).trans (hostWh_pad lit4 wi (krow g j) k)
  hid g j k := (hostW2_hid _ _ _ _ _ _ _ (krow g j) ⟨k.val, by omega⟩).trans (hostWh_holds lit5 (fun _ => rfl) wh g j k)
  hidPad g j k := (hostW2_hid _ _ _ _ _ _ _ (krow g j) ⟨100 + k.val, by omega⟩).trans (hostWh_pad lit5 wh (krow g j) k)
  bias g j := (hostW2_bias _ _ _ _ _ _ _ (krow g j)).trans
    ((hostBias_at lit3 b b' (krow g j) g j (krow_gate g j) (krow_unit g j)).trans
      (by rw [hostScale_at lit3 (fun _ => rfl)]))
  biasPad g j k := hostW2_pad _ _ _ _ _ _ _ (krow g j) k

/-- The body's copy of the recurrent weights. -/
theorem pay286_eq (w : FVec Ideal S416x112 .bf16) (r : Fin 416) (k : Fin 112) : k0_pay286 w (ix2 r k) = w (ix2 r k) := by
  pointwise [k0_pay286]

/-- The first product, on the prepared arrays, holds the scaled input part of the gates. -/
theorem pay285_holds (w : FVec Ideal S400x8 .f32) (e : FVec Ideal S100x8 .f32) (b b' : FVec Ideal S400 .f32) (g : Fin 4)
    (j v : Fin 100) :
    k0_pay285 (F := Ideal) (hostWi lit0 w) (hostEmb e)
        (broadcastInDim S416x112 ![0, 1] bcast_S416x1_S416x112_0_1 (hostBias lit1 b b')) (ix2 (krow g j) ⟨v.val, by omega⟩)
      = (sc g : EReal) * Spec.lin (fun k => e (ix2 v k)) (fun r k => w (ix2 r k)) (fun r => b (ix1 r)) (fun r => b' (ix1 r))
          (Spec.row g j) := by
  have hb : broadcastInDim S416x112 ![0, 1] bcast_S416x1_S416x112_0_1 (hostBias (F := Ideal) lit1 b b')
      (ix2 (krow g j) (⟨v.val, by omega⟩ : Fin 112)) = hostBias lit1 b b' (ix2 (krow g j) 0) := by
    pointwise []
  rw [pay285_at, hb, hostBias_at lit1 b b' (krow g j) g j (krow_gate g j) (krow_unit g j), hostScale_at lit1 (fun _ => rfl),
    Spec.lin, Spec.mul_add_of_real (sc_nonneg g), Spec.mul_sum_of_nonneg _ _ (sc_nonneg g), mul_comm (_ + _)]
  refine congrArg (· + _) (Finset.sum_congr rfl fun k _ => ?_)
  rw [hostWi_at lit0 w (krow g j) g j (krow_gate g j) (krow_unit g j), hostScale_at lit0 (fun _ => rfl), hostEmb_at,
    mul_comm (w _), mul_assoc, mul_comm (w _)]

/-- The scratch array after the body's two stores, `a` in its first half of columns and `b` in its second. -/
def scratch (a b : FVec Ideal S416x112 .bf16) : BufTy.Contents (Elt Ideal) (View.whole cc0_scratch0).ty :=
  (View.whole cc0_scratch0).writes (Elt Ideal) (View.whole cc0_scratch0).junk
    [⟨Rect.unit ![0, 112] ![416, 112] inb_S416x224_S416x112_0_112, b⟩,
      ⟨Rect.unit ![0, 0] ![416, 112] inb_S416x224_S416x112_0_0, a⟩]

/-- The first 112 columns read as the first store's. -/
theorem w1Of_left (a b : FVec Ideal S416x112 .bf16) (r : Fin 416) (v : Fin 112) :
    w1Of (F := Ideal) scM0_0 (scratch a b) (ix2 r ⟨v.val, by omega⟩) = a (ix2 r v) := by
  unfold w1Of scratch
  rw [View.readAt_eq_ld]
  refine (View.ld_unit_apply_of _ _ _ _ _ (ix2 r (⟨v.val, by omega⟩ : Fin 224)) ?_).trans ?_
  · intro i
    fin_cases i <;> exact (Nat.zero_add _).symm
  · refine (View.read_writes_junk_apply_eq_canon _ _ _).trans ?_
    canon_tiles x h
    case piece0 =>
      have e : v.val = 112 + (x 1).val := h1
      omega
    case piece1 =>
      refine congrArg _ (funext fun i => ?_)
      fin_cases i
      · exact Fin.ext h0.symm
      · exact Fin.ext (by have e : v.val = (x 1).val := h1
                          show (x 1).val = v.val
                          omega)

/-- The last 112 columns read as the second store's. -/
theorem w1Of_right (a b : FVec Ideal S416x112 .bf16) (r : Fin 416) (v : Fin 112) :
    w1Of (F := Ideal) scM0_0 (scratch a b) (ix2 r ⟨112 + v.val, by omega⟩) = b (ix2 r v) := by
  unfold w1Of scratch
  rw [View.readAt_eq_ld]
  refine (View.ld_unit_apply_of _ _ _ _ _ (ix2 r (⟨112 + v.val, by omega⟩ : Fin 224)) ?_).trans ?_
  · intro i
    fin_cases i <;> exact (Nat.zero_add _).symm
  · refine (View.read_writes_junk_apply_eq_canon _ _ _).trans ?_
    canon_tiles x h
    case piece0 =>
      refine congrArg _ (funext fun i => ?_)
      fin_cases i
      · exact Fin.ext h0.symm
      · exact Fin.ext (by have e : 112 + v.val = 112 + (x 1).val := h1
                          show (x 1).val = v.val
                          omega)
    case piece1 =>
      have e : 112 + v.val = (x 1).val := h1
      omega

/-- What the scratch array holds is layer 1's weights in the kernel's order: its input part on the embedding's rows, and its
    recurrent part. -/
theorem weights1 (e : FVec Ideal S100x8 .f32) (wi : FVec Ideal S400x8 .f32) (wh : FVec Ideal S400x100 .f32)
    (b b' : FVec Ideal S400 .f32) :
    Weights1
      (w1Of (F := Ideal) scM0_0
        (scratch
          (k0_pay285 (hostWi lit0 wi) (hostEmb e)
            (broadcastInDim S416x112 ![0, 1] bcast_S416x1_S416x112_0_1 (hostBias lit1 b b')))
          (k0_pay286 (truncf .bf16 (hostWh lit2 wh) bitsLt_bf16_f32))))
      (fun v => Spec.lin (fun k => e (ix2 v k)) (fun r k => wi (ix2 r k)) (fun r => b (ix1 r)) (fun r => b' (ix1 r)))
      (fun r k => wh (ix2 r k)) where
  tok g j v := (w1Of_left _ _ (krow g j) ⟨v.val, by omega⟩).trans (pay285_holds wi e b b' g j v)
  hid g j k := (w1Of_right _ _ (krow g j) ⟨k.val, by omega⟩).trans
    ((pay286_eq _ _ _).trans (hostWh_holds lit2 (fun _ => rfl) wh g j k))
  pad g j k := (w1Of_right _ _ (krow g j) ⟨100 + k.val, by omega⟩).trans
    ((pay286_eq _ _ _).trans (hostWh_pad lit2 wh (krow g j) k))

/-- A load of the whole second weight array reads it. -/
theorem w2Of_unread (a : Memref sig .tc .vmem S416x240 .bf16) (ha : a.IsWhole) (x : FVec Ideal S416x240 .bf16) :
    w2Of (F := Ideal) a (ha.unread x) = x := by
  unfold w2Of
  rw [View.readAt_eq_ld, ha.read_unread]
  exact View.ld_unit_lit _ _ (by intro i; fin_cases i <;> rfl)

end Cert.KernelIdeal.Lstm

end
-- ==== Proof.KerOut.lean ====
/-
  The kernel's result: an entry of the array is the problem's readout of the second layer's last state, on the row's tokens.
-/
module

public import proofs.«01_k».proof.Proof.KerLoop
public import proofs.«01_k».proof.Proof.KerWeights
public import proofs.«01_k».proof.Proof.Gen.KernelIdeal.Value
public import Idealize.ShloMosaic.Lib.Pipeline.ValueKit

@[expose] public section

set_option maxRecDepth 16384

noncomputable section

namespace Cert.KernelIdeal.Lstm

open Idealize.ShloMosaic Idealize.ShloMosaic.TcCoe Idealize.SL.Sem
open Idealize.ShloMosaic.Pipeline (Dat)
open Cert.KernelIdeal.Gen

/-! ## The readout -/

/-- The first half's readout of a column that holds twice the hidden state. -/
theorem readA_at {h : Hid Ideal} {b : Fin 512} {q : Fin 100 → EReal} (hh : HoldsH h b q) (w : FVec Ideal S100x100 .f32)
    (d : FVec Ideal S100 .f32) (v : Fin 100) :
    k0_pay1 (F := Ideal) (k0_pay296 h (hostFc w)) (k0_pay297 (shapeCast S1x100 d shapeCasts_S100_S1x100)) (ix2 b v)
      = Spec.readout q (fun r k => w (ix2 r k)) (fun r => d (ix1 r)) v := by
  pointwise [k0_pay1, k0_pay296, k0_pay297, k0_pay294, k0_pay295]
  refine congrArg (· + d (ix1 v)) ?_
  refine (Finset.sum_congr rfl fun k _ => mul_comm _ _).trans
    ((sum_weights hh (fun k => hostFc w (ix2 k v)) (fun k => w (ix2 v k)) 1 zero_le_one (fun k => ?_) fun k => ?_).trans ?_)
  · rw [EReal.coe_one, mul_one]
    exact hostFc_at w k v
  · exact hostFc_pad w k v
  · rw [EReal.coe_one, one_mul]

/-- The second half's, which is the same. -/
theorem readB_at {h : Hid Ideal} {b : Fin 512} {q : Fin 100 → EReal} (hh : HoldsH h b q) (w : FVec Ideal S100x100 .f32)
    (d : FVec Ideal S100 .f32) (v : Fin 100) :
    k0_pay2 (F := Ideal) h (k0_pay294 (hostFc w)) (k0_pay295 (shapeCast S1x100 d shapeCasts_S100_S1x100)) (ix2 b v)
      = Spec.readout q (fun r k => w (ix2 r k)) (fun r => d (ix1 r)) v :=
  readA_at hh w d v

/-! ## The blocks -/

/-- The blocks of each window: the tokens and the result move with the point, every other array is one block. -/
theorem idx : ∀ t : Fin cfg0.N, win0_0.index t = ![0, 0, t.val] ∧ win0_8.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

/-- The embedding is one block. -/
theorem iblk_1 : (iblk m c 1 t : FVec Ideal S8x112 .f32) = V m c main_v3 := by
  funext y
  blk_ext [iblk, idx t]

/-- Layer 1's input weights are one block. -/
theorem iblk_2 : (iblk m c 2 t : FVec Ideal S416x8 .f32) = V m c main_v11 := by
  funext y
  blk_ext [iblk, idx t]

/-- Layer 1's bias is one block. -/
theorem iblk_3 : (iblk m c 3 t : FVec Ideal S416x112 .f32) = V m c main_v21 := by
  funext y
  blk_ext [iblk, idx t]

/-- Layer 1's recurrent weights are one block. -/
theorem iblk_4 : (iblk m c 4 t : FVec Ideal S416x112 .bf16) = V m c main_v33 := by
  funext y
  blk_ext [iblk, idx t]

/-- Layer 2's weights are one block. -/
theorem iblk_5 : (iblk m c 5 t : FVec Ideal S416x240 .bf16) = V m c main_v67 := by
  funext y
  blk_ext [iblk, idx t]

/-- The readout's weights are one block. -/
theorem iblk_6 : (iblk m c 6 t : FVec Ideal S112x100 .bf16) = V m c main_v72 := by
  funext y
  blk_ext [iblk, idx t]

/-- The readout's bias is one block. -/
theorem iblk_7 : (iblk m c 7 t : FVec Ideal S1x100 .f32) = V m c main_v73 := by
  funext y
  blk_ext [iblk, idx t]

/-- Block `t` of the tokens holds rows `1024 t` to `1024 t + 1023` of the argument. -/
theorem iblk_0 (s : Fin 80) (p : Fin 1024) (n : Fin 8192) (hn : n.val = t.val * 1024 + p.val) :
    (iblk m c 0 t : Vec Ideal S80x1x1024 .i32) (ix3 s 0 p)
      = (V m c main_v1 : Vec Ideal S80x1x8192 .i32) (ix3 s 0 n) := by
  blk_ext [iblk, idx t]

/-- Layer 2's hidden state after eighty steps on a row of tokens, from the arguments. -/
def hidden (v : ℕ → Fin 100) : Fin 100 → EReal :=
  (Spec.layer2
    (lay1
      (fun v => Spec.lin (fun k => (m ((c : Thread nD τ).loc main_arg1) : FVec Ideal S100x8 .f32) (ix2 v k))
        (fun r k => (m ((c : Thread nD τ).loc main_arg2) : FVec Ideal S400x8 .f32) (ix2 r k))
        (fun r => (m ((c : Thread nD τ).loc main_arg4) : FVec Ideal S400 .f32) (ix1 r))
        (fun r => (m ((c : Thread nD τ).loc main_arg5) : FVec Ideal S400 .f32) (ix1 r)))
      (fun r k => (m ((c : Thread nD τ).loc main_arg3) : FVec Ideal S400x100 .f32) (ix2 r k)) v)
    (fun r k => (m ((c : Thread nD τ).loc main_arg6) : FVec Ideal S400x100 .f32) (ix2 r k))
    (fun r k => (m ((c : Thread nD τ).loc main_arg7) : FVec Ideal S400x100 .f32) (ix2 r k))
    (fun r => (m ((c : Thread nD τ).loc main_arg8) : FVec Ideal S400 .f32) (ix1 r))
    (fun r => (m ((c : Thread nD τ).loc main_arg9) : FVec Ideal S400 .f32) (ix1 r)) 80).1

/-- The problem's result on the arguments, `v n` being the tokens of row `n`. -/
def out (v : Fin 8192 → ℕ → Fin 100) : FVec Ideal S8192x100 .f32 := fun i =>
  Spec.readout (hidden m c (v (i 0)))
    (fun r k => (m ((c : Thread nD τ).loc main_arg10) : FVec Ideal S100x100 .f32) (ix2 r k))
    (fun r => (m ((c : Thread nD τ).loc main_arg11) : FVec Ideal S100 .f32) (ix1 r)) (i 1)

/-- The first argument's rows are the tokens `v`. -/
def Tokens (v : Fin 8192 → ℕ → Fin 100) : Prop :=
  ∀ (n : Fin 8192) (s : Fin 80),
    (m ((c : Thread nD τ).loc main_arg0) : Vec Ideal S8192x80 .i32) (ix2 n s) = BitVec.ofNat 32 (v n s.val).val

variable {v : Fin 8192 → ℕ → Fin 100}

/-- The two halves' states after the body's loop at point `t`. -/
def finish : Both Ideal :=
  st_k0_t1 (F := Ideal) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) scM0_0 (Memref.isWhole_whole _)
    ((hs0_0 t).unread (iblk m c 0 t)) ((hs0_5 t).unread (iblk m c 5 t))
    (scratch (k0_pay285 (iblk m c 2 t) (iblk m c 1 t) (iblk m c 3 t)) (k0_pay286 (iblk m c 4 t))) start k0_t1_loop.trips

/-- What the scratch array holds at a point is layer 1's weights, from the arguments. -/
theorem weights1_at :
    Weights1
      (w1Of (F := Ideal) scM0_0
        (scratch (k0_pay285 (iblk m c 2 t) (iblk m c 1 t) (iblk m c 3 t)) (k0_pay286 (iblk m c 4 t))))
      (fun v => Spec.lin (fun k => (m ((c : Thread nD τ).loc main_arg1) : FVec Ideal S100x8 .f32) (ix2 v k))
        (fun r k => (m ((c : Thread nD τ).loc main_arg2) : FVec Ideal S400x8 .f32) (ix2 r k))
        (fun r => (m ((c : Thread nD τ).loc main_arg4) : FVec Ideal S400 .f32) (ix1 r))
        (fun r => (m ((c : Thread nD τ).loc main_arg5) : FVec Ideal S400 .f32) (ix1 r)))
      (fun r k => (m ((c : Thread nD τ).loc main_arg3) : FVec Ideal S400x100 .f32) (ix2 r k)) := by
  rw [iblk_1, iblk_2, iblk_3, iblk_4, V_v3, V_v11, V_v21, V_v33]
  exact weights1 _ _ _ _ _

/-- An entry of a bias. -/
abbrev entry (b : FVec Ideal S400 .f32) (r : Fin 400) : EReal := b (ix1 r)

/-- What a point loads as the second weight array is layer 2's weights, from the arguments. -/
theorem weights2_at :
    Weights2 (w2Of (F := Ideal) (ms0_5 t) ((hs0_5 t).unread (iblk m c 5 t)))
      (fun r k => (m ((c : Thread nD τ).loc main_arg6) : FVec Ideal S400x100 .f32) (ix2 r k))
      (fun r k => (m ((c : Thread nD τ).loc main_arg7) : FVec Ideal S400x100 .f32) (ix2 r k))
      (fun r => entry (m ((c : Thread nD τ).loc main_arg8)) r + entry (m ((c : Thread nD τ).loc main_arg9)) r) := by
  rw [w2Of_unread, iblk_5, V_v67]
  exact weights2 _ _ _ _

/-- The first half reads the token of its own column … -/
theorem tokA_at (x : Vec Ideal S1x1x1024 .i32) (b : Fin 512) :
    tokA (F := Ideal) x (ix2 0 b) = FloatOps.sitofp .bf16 (x (ix3 0 0 (⟨b.val, by omega⟩ : Fin 1024))) := by
  pointwise [tokA, tokNum]

/-- … and the second half the token 512 columns on. -/
theorem tokB_at (x : Vec Ideal S1x1x1024 .i32) (b : Fin 512) :
    tokB (F := Ideal) x (ix2 0 b) = FloatOps.sitofp .bf16 (x (ix3 0 0 (⟨512 + b.val, by omega⟩ : Fin 1024))) := by
  pointwise [tokB, tokNum]

/-- The first half's hidden state of layer 2 after the loop, in column `b`: the layers' on row `1024 t + b`. -/
theorem finish_fst (hv : Tokens m c v) (b : Fin 512) (n : Fin 8192) (hn : n.val = t.val * 1024 + b.val) :
    HoldsH (fstHalf (finish m c t)).2.2.1 b (hidden m c (v n)) :=
  (loop_holds _ _ _ _ _ _ _ _ _ _ _ _ _ _ _ _ _ _ _ _ _ _ _ _ _ _ _ (weights1_at m c t) (weights2_at m c t) fstHalf tokA
    (fun _ _ => rfl) start_holds.1 ⟨b.val, by omega⟩ (fun x => tokA_at x b)
    (fun s => (iblk_0 m c t s ⟨b.val, by omega⟩ n hn).trans
      ((congrFun (V_v1 m c) _).trans ((hostTok_at _ s n).trans (hv n s)))) k0_t1_loop.trips le_rfl).2.2.1

/-- The second half's, on row `1024 t + 512 + b`. -/
theorem finish_snd (hv : Tokens m c v) (b : Fin 512) (n : Fin 8192) (hn : n.val = t.val * 1024 + (512 + b.val)) :
    HoldsH (sndHalf (finish m c t)).2.2.1 b (hidden m c (v n)) :=
  (loop_holds _ _ _ _ _ _ _ _ _ _ _ _ _ _ _ _ _ _ _ _ _ _ _ _ _ _ _ (weights1_at m c t) (weights2_at m c t) sndHalf tokB
    (fun _ _ => rfl) start_holds.2 ⟨512 + b.val, by omega⟩ (fun x => tokB_at x b)
    (fun s => (iblk_0 m c t s ⟨512 + b.val, by omega⟩ n hn).trans
      ((congrFun (V_v1 m c) _).trans ((hostTok_at _ s n).trans (hv n s)))) k0_t1_loop.trips le_rfl).2.2.1

/-- The element of the array under entry `y` of block `t`. -/
theorem emb_eq (y : ((cfg0.win 8).xblock (cfg0.grid.coords t)).Idx) (n : Fin 8192) (j : Fin 100)
    (hn : n.val = t.val * 1024 + (y 0).val) (hj : (y 1).val = j.val) :
    ((View.whole main_v74).slice (win0_8.rect t)).emb y = ix2 n j := by
  blk_ext [idx t]

/-- The array after the launch is the problem's result, when the tokens are those of the first argument. -/
theorem final (hv : Tokens m c v) : (dats m 0 c).arrAt 8 cfg0.N = out m c v := by
  refine (dats m 0 c).arrAt_eq_of_covers 8 _ (by decide +kernel) fun t _ y => ?_
  have ht : t.val < 8 := lt_of_lt_of_eq t.isLt (by decide)
  blk_simp
  rw [after0_8]
  unfold outsAt0
  frame_out
  canon_tiles x h
  case piece0 =>
    rw [emb_eq t y ⟨t.val * 1024 + (512 + (x 0).val), by omega⟩ ⟨(x 1).val, x1_lt⟩ (by rw [h0]) h1]
    show k0_pay2 (sndHalf (finish m c t)).2.2.1 (k0_pay294 (iblk m c 6 t)) (k0_pay295 (iblk m c 7 t)) x = _
    rw [iblk_6, iblk_7, V_v72, V_v73]
    exact (congrArg _ (eq_ix2 x)).trans (readB_at (finish_snd m c t hv ⟨(x 0).val, x0_lt⟩ _ rfl) _ _ _)
  case piece1 =>
    rw [emb_eq t y ⟨t.val * 1024 + (x 0).val, by omega⟩ ⟨(x 1).val, x1_lt⟩ (by rw [h0]) h1]
    show k0_pay1 (k0_pay296 (fstHalf (finish m c t)).2.2.1 (iblk m c 6 t)) (k0_pay297 (iblk m c 7 t)) x = _
    rw [iblk_6, iblk_7, V_v72, V_v73]
    exact (congrArg _ (eq_ix2 x)).trans (readA_at (finish_fst m c t hv ⟨(x 0).val, x0_lt⟩ _ rfl) _ _ _)

end Cert.KernelIdeal.Lstm

end
-- ==== Proof.Tokens.lean ====
/-
  The precondition: an array of tokens of which it holds has every entry between 0 and 99.
-/
module

public import proofs.«01_k».proof.Pre_tokens_in_vocab
public import Idealize.ShloMosaic.Lib.ReduceAll
public import Idealize.ShloMosaic.Lib.Pointwise
public import Idealize.ShloMosaic.PureOps.Ideal

@[expose] public section

noncomputable section

namespace Cert.Pre_tokens_in_vocab

open Idealize.ShloMosaic

/-- The shape relations that the precondition states. -/
theorem shapes : Facts where
  bcast_S_S8192x80 := by decide
  reducesTo_S8192x80_S_d0_1 := by decide
  h_S_ := by decide

/-- A word that is at least 0 and below 100 as a signed number is below 100 as a natural number. -/
theorem toNat_lt_of_signed (w : BitVec 32) (h0 : (0#32).sle w = true) (h1 : w.slt 100#32 = true) : w.toNat < 100 := by
  rw [BitVec.sle_eq_decide, decide_eq_true_iff] at h0
  rw [BitVec.slt_eq_decide, decide_eq_true_iff] at h1
  have e0 : (0#32).toInt = 0 := by decide
  have e1 : (100#32).toInt = 100 := by decide
  rw [e0] at h0
  rw [e1] at h1
  rw [BitVec.toInt_eq_toNat_cond] at h0 h1
  split at h0 <;> omega

/-- A conjunction of two bits that is 1 has both 1. -/
theorem and_eq_one : ∀ a b : BitVec 1, a &&& b = 1#1 → a = 1#1 ∧ b = 1#1 := by decide

/-- A truth value whose bit is 1 is true. -/
theorem ofBool_eq_one : ∀ b : Bool, BitVec.ofBool b = 1#1 → b = true := by decide

/-- Where the precondition holds, every token is below 100. -/
theorem token_lt [Facts] (x : IVec S8192x80 32) (a1 : FVec Ideal S100x8 .f32) (a2 : FVec Ideal S400x8 .f32) (a3 : FVec Ideal S400x100 .f32)
    (a4 a5 : FVec Ideal S400 .f32) (a6 a7 : FVec Ideal S400x100 .f32) (a8 a9 : FVec Ideal S400 .f32)
    (a10 : FVec Ideal S100x100 .f32) (a11 : FVec Ideal S100 .f32)
    (h : fn (F := Ideal) x a1 a2 a3 a4 a5 a6 a7 a8 a9 a10 a11 = fun _ => 1#1) (i : S8192x80.Idx) : (x i).toNat < 100 := by
  haveI : Subsingleton S_.Idx := ⟨fun _ _ => funext fun a => a.elim0⟩
  have e := and_eq_one _ _ (Host.reduce_andi_all _ _ _ _ (fun a => a.elim0) (congrFun h fun a => a.elim0) i)
  exact toNat_lt_of_signed (x i) (ofBool_eq_one _ e.1) (ofBool_eq_one _ e.2)

/-- The tokens of row `n`, as indices of the embedding's rows. -/
def tokens (x : IVec S8192x80 32) (n : Fin 8192) (t : ℕ) : Fin 100 :=
  Fin.ofNat 100 (x (ix2 n (⟨t % 80, Nat.mod_lt _ (by decide)⟩ : Fin 80))).toNat

/-- An array whose entries are below 100 holds its tokens. -/
theorem tokens_eq (x : IVec S8192x80 32) (hx : ∀ i, (x i).toNat < 100) (n : Fin 8192) (s : Fin 80) :
    x (ix2 n s) = BitVec.ofNat 32 (tokens x n s.val).val := by
  have e : (⟨s.val % 80, Nat.mod_lt _ (by decide)⟩ : Fin 80) = s := Fin.ext (Nat.mod_eq_of_lt s.isLt)
  unfold tokens
  rw [e]
  show _ = BitVec.ofNat 32 ((x (ix2 n s)).toNat % 100)
  rw [Nat.mod_eq_of_lt (hx _), BitVec.ofNat_toNat, BitVec.setWidth_eq]

end Cert.Pre_tokens_in_vocab

end
-- ==== Proof.lean ====
/- The claims of the certificate, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.RefValue
public import proofs.«01_k».proof.Proof.KerOut
public import proofs.«01_k».proof.Proof.Tokens
public import Idealize.ShloMosaic.Adequacy
public import Idealize.ShloMosaic.Init

@[expose] public section

noncomputable section

namespace Cert.Proof

open Idealize.ShloMosaic Idealize.SL.Sem

/-- Where the tokens are rows of the embedding, the kernel's array is the reference's result of the same arguments. -/
theorem array_eq (m : (ℓ : Loc Cert.KernelIdeal.nD Cert.KernelIdeal.τ Cert.KernelIdeal.sig) → Buf (Elt Ideal) ℓ)
    (c : Dev Cert.KernelIdeal.nD)
    (hx : ∀ i, ((m ((c.tc : Thread Cert.KernelIdeal.nD Cert.KernelIdeal.τ).loc Cert.KernelIdeal.main_arg0) :
      IVec Cert.KernelIdeal.S8192x80 32) i).toNat < 100) :
    (Cert.KernelIdeal.Gen.dats m 0 c).arrAt 8 Cert.KernelIdeal.cfg0.N
      = Cert.ReferenceIdeal.Lstm.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)) := by
  have hv := Cert.Pre_tokens_in_vocab.tokens_eq _ hx
  refine (Cert.KernelIdeal.Lstm.final m c hv).trans (funext fun i => ?_)
  obtain ⟨n, k, rfl⟩ : ∃ (n : Fin 8192) (k : Fin 100), i = ix2 n k := ⟨i 0, i 1, eq_ix2 i⟩
  exact (Cert.ReferenceIdeal.Lstm.result_at _ _ _ _ _ _ _ _ _ _ _ _ n k _ (hv n)).symm

/-- Over the extended reals the kernel and the reference end holding the same result. -/
theorem algebraic : Cert.algebraic_KernelIdeal_ReferenceIdeal_pre_tokens_in_vocab
    (hKernelIdeal := Cert.KernelIdeal.Gen.facts) (hReferenceIdeal := Cert.ReferenceIdeal.Gen.facts)
    (hPre_tokens_in_vocab := Cert.Pre_tokens_in_vocab.shapes) := by
  intro m g m' g' hpre hagree
  refine ⟨fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Lstm.run_result m' g')
  have hx := @Cert.Pre_tokens_in_vocab.token_lt Cert.Pre_tokens_in_vocab.shapes _ _ _ _ _ _ _ _ _ _ _ _ (hpre c)
  refine Eq.trans ?_ (array_eq m c hx).symm
  obtain ⟨e0, e1, e2, e3, e4, e5, e6, e7, e8, e9, e10, e11⟩ := hagree c
  exact congr (congr (congr (congr (congr (congr (congr (congr (congr (congr (congr
    (congrArg Cert.ReferenceIdeal.Lstm.result e0) e1) e2) e3) e4) e5) e6) e7) e8) e9) e10) e11

/-- The frames of the kernel (as written and over the extended reals) and of the reference, the idealization, and the equality
    of the two results over the extended reals. -/
theorem claim : Cert.Claim := ⟨Cert.Kernel.Gen.facts, Cert.KernelIdeal.Gen.facts, Cert.ReferenceIdeal.Gen.facts,
  Cert.Pre_tokens_in_vocab.shapes,
  fun m ρ _ => Cert.Kernel.Gen.frame m ρ, fun m ρ _ => Cert.KernelIdeal.Gen.frame m ρ,
  fun m ρ _ => Cert.KernelIdeal.Gen.frame m ρ, fun m ρ _ => Cert.ReferenceIdeal.Lstm.frame m ρ,
  fun m ρ _ => Cert.ReferenceIdeal.Lstm.frame m ρ, trivial, algebraic⟩

end Cert.Proof

end
